-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_weighted_graph [hPre_weighted_graph : Cert.Pre_weighted_graph.Facts] (m : (ℓ : Loc Cert.KernelIdeal.nD Cert.KernelIdeal.τ Cert.KernelIdeal.sig) → Buf (Elt Ideal) ℓ) : Prop :=
  ∀ c : Dev Cert.KernelIdeal.nD,
    (Cert.Pre_weighted_graph.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_weighted_graph.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_weighted_graph.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_weighted_graph.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_weighted_graph [hPre_weighted_graph : Cert.Pre_weighted_graph.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_weighted_graph.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_weighted_graph.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_weighted_graph.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_weighted_graph.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_weighted_graph [hKernelIdeal : Cert.KernelIdeal.Facts] [hPre_weighted_graph : Cert.Pre_weighted_graph.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_weighted_graph m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_weighted_graph [hReferenceIdeal : Cert.ReferenceIdeal.Facts] [hPre_weighted_graph : Cert.Pre_weighted_graph.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_weighted_graph m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_weighted_graph [hKernelIdeal : Cert.KernelIdeal.Facts] [hReferenceIdeal : Cert.ReferenceIdeal.Facts] [hPre_weighted_graph : Cert.Pre_weighted_graph.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_weighted_graph m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_arg0)) (v1 : (c : Dev Cert.KernelIdeal.nD) → Buf (Elt Ideal) ((c.tc : Thread Cert.KernelIdeal.nD Cert.KernelIdeal.τ).loc Cert.KernelIdeal.main_v2)) (v2 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg0) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_v21) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_indices) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_weighted_graph : Cert.Pre_weighted_graph.Facts),
    quiescent_Kernel (hKernel := hKernel)
    ∧ quiescent_KernelIdeal (hKernelIdeal := hKernelIdeal)
    ∧ quiescent_KernelIdeal_pre_weighted_graph (hKernelIdeal := hKernelIdeal) (hPre_weighted_graph := hPre_weighted_graph)
    ∧ quiescent_ReferenceIdeal (hReferenceIdeal := hReferenceIdeal)
    ∧ quiescent_ReferenceIdeal_pre_weighted_graph (hReferenceIdeal := hReferenceIdeal) (hPre_weighted_graph := hPre_weighted_graph)
    ∧ preserves_Kernel_KernelIdeal
    ∧ algebraic_KernelIdeal_ReferenceIdeal_pre_weighted_graph (hKernelIdeal := hKernelIdeal) (hReferenceIdeal := hReferenceIdeal) (hPre_weighted_graph := hPre_weighted_graph)
-- ==== Pre_weighted_graph.lean ====
abbrev S12288x12288 : Shape := ⟨2, ![12288, 12288]⟩
abbrev S12288x128 : Shape := ⟨2, ![12288, 128]⟩
abbrev S12288 : Shape := ⟨1, ![12288]⟩
abbrev S128 : Shape := ⟨1, ![128]⟩
abbrev S1 : Shape := ⟨1, ![1]⟩
abbrev S_ : Shape := ⟨0, ![]⟩

class Facts : Prop where
  bcast_S_S12288x12288 : S_.BroadcastsInDim S12288x12288 (![] : Fin 0 → Fin S12288x12288.rank)
  reducesTo_S12288x12288_S12288_d1 : S12288x12288.ReducesTo [1] S12288
  h_S_ : 0 < S_.numel
  bcast_S_S12288 : S_.BroadcastsInDim S12288 (![] : Fin 0 → Fin S12288.rank)

variable [Facts]

def fn {F : FTy → Type} [FloatOps F] (main_arg0 : FVec F S12288x12288 .f32) (main_arg1 : FVec F S12288x128 .f32) (main_arg2 : IVec S12288 32) (main_arg3 : FVec F S128 .f32) (main_arg4 : FVec F S128 .f32) (main_arg5 : FVec F S128 .f32) (main_arg6 : FVec F S1 .f32) : IVec S12288x12288 1 × IVec S12288 1 × IVec S12288 1 × IVec S12288 1 :=
  let main_cst : FVec F S_ .f32 := constant S_ .f32 0x00000000#32
  let main_v0 : FVec F S12288x12288 .f32 := broadcastInDim S12288x12288 ![] bcast_S_S12288x12288 main_cst
  let main_v1 : IVec S12288x12288 1 := cmpf .oge main_arg0 main_v0
  let main_cst_0 : FVec F S_ .f32 := constant S_ .f32 0x00000000#32
  let main_v2 : FVec F S12288 .f32 := (fun x v => Host.reduceAdd x v reducesTo_S12288x12288_S12288_d1 h_S_) main_arg0 main_cst_0
  let main_cst_1 : FVec F S_ .f32 := constant S_ .f32 0x00000000#32
  let main_v3 : FVec F S12288 .f32 := broadcastInDim S12288 ![] bcast_S_S12288 main_cst_1
  let main_v4 : IVec S12288 1 := cmpf .ogt main_v2 main_v3
  let main_c : IVec S_ 32 := constantI S_ 32 0#32
  let main_v5 : IVec S12288 32 := broadcastInDim S12288 ![] bcast_S_S12288 main_c
  let main_v6 : IVec S12288 1 := cmpi .sge main_arg2 main_v5
  let main_c_2 : IVec S_ 32 := constantI S_ 32 8#32
  let main_v7 : IVec S12288 32 := broadcastInDim S12288 ![] bcast_S_S12288 main_c_2
  let main_v8 : IVec S12288 1 := cmpi .slt main_arg2 main_v7
  (main_v1, main_v4, main_v6, main_v8)
-- ==== Kernel.lean ====
abbrev S12288x12288 : Shape := ⟨2, ![12288, 12288]⟩
abbrev S12288x128 : Shape := ⟨2, ![12288, 128]⟩
abbrev S12288 : Shape := ⟨1, ![12288]⟩
abbrev S128 : Shape := ⟨1, ![128]⟩
abbrev S1 : Shape := ⟨1, ![1]⟩
abbrev S1x128 : Shape := ⟨2, ![1, 128]⟩
abbrev S12288x1 : Shape := ⟨2, ![12288, 1]⟩
abbrev S8 : Shape := ⟨1, ![8]⟩
abbrev S1x8 : Shape := ⟨2, ![1, 8]⟩
abbrev S12288x8 : Shape := ⟨2, ![12288, 8]⟩
abbrev S_ : Shape := ⟨0, ![]⟩
abbrev S12288x119 : Shape := ⟨2, ![12288, 119]⟩
abbrev S12288x256 : Shape := ⟨2, ![12288, 256]⟩
abbrev S48x256x1 : Shape := ⟨3, ![48, 256, 1]⟩
abbrev S256x12288 : Shape := ⟨2, ![256, 12288]⟩
abbrev S256x128 : Shape := ⟨2, ![256, 128]⟩
abbrev S1x256x1 : Shape := ⟨3, ![1, 256, 1]⟩
abbrev S256x256 : Shape := ⟨2, ![256, 256]⟩
abbrev S256x1 : Shape := ⟨2, ![256, 1]⟩
abbrev S256 : Shape := ⟨1, ![256]⟩
abbrev S256x8 : Shape := ⟨2, ![256, 8]⟩
abbrev S8x1536 : Shape := ⟨2, ![8, 1536]⟩
abbrev S1x512 : Shape := ⟨2, ![1, 512]⟩
abbrev S1x8x1536 : Shape := ⟨3, ![1, 8, 1536]⟩
abbrev S1x1x1 : Shape := ⟨3, ![1, 1, 1]⟩
abbrev S512 : Shape := ⟨1, ![512]⟩

abbrev nBuf : Space → Nat
  | .hbm => 34
  | .vmem => 23
  | .smem => 1
  | _ => 0

abbrev bufTy : (tb : Table) → Fin (tcTables nBuf tb) → BufTy
  | .hbm, ⟨0, _⟩ => ⟨S12288x12288, .f32⟩
  | .hbm, ⟨1, _⟩ => ⟨S12288x128, .f32⟩
  | .hbm, ⟨2, _⟩ => ⟨S12288, .i32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S1, .f32⟩
  | .hbm, ⟨7, _⟩ => ⟨S1x128, .f32⟩
  | .hbm, ⟨8, _⟩ => ⟨S1x128, .f32⟩
  | .hbm, ⟨9, _⟩ => ⟨S12288x128, .f32⟩
  | .hbm, ⟨10, _⟩ => ⟨S12288x1, .i32⟩
  | .hbm, ⟨11, _⟩ => ⟨S8, .i32⟩
  | .hbm, ⟨12, _⟩ => ⟨S1x8, .i32⟩
  | .hbm, ⟨13, _⟩ => ⟨S12288x8, .i32⟩
  | .hbm, ⟨14, _⟩ => ⟨S12288x8, .i32⟩
  | .hbm, ⟨15, _⟩ => ⟨S12288x8, .i1⟩
  | .hbm, ⟨16, _⟩ => ⟨S12288x8, .f32⟩
  | .hbm, ⟨17, _⟩ => ⟨S_, .f32⟩
  | .hbm, ⟨18, _⟩ => ⟨S12288x1, .f32⟩
  | .hbm, ⟨19, _⟩ => ⟨S_, .f32⟩
  | .hbm, ⟨20, _⟩ => ⟨S12288x119, .f32⟩
  | .hbm, ⟨21, _⟩ => ⟨S12288x128, .f32⟩
  | .hbm, ⟨22, _⟩ => ⟨S12288x256, .f32⟩
  | .hbm, ⟨23, _⟩ => ⟨S1x128, .f32⟩
  | .hbm, ⟨24, _⟩ => ⟨S48x256x1, .f32⟩
  | .hbm, ⟨25, _⟩ => ⟨S48x256x1, .f32⟩
  | .hbm, ⟨26, _⟩ => ⟨S48x256x1, .f32⟩
  | .hbm, ⟨27, _⟩ => ⟨S48x256x1, .f32⟩
  | .hbm, ⟨28, _⟩ => ⟨S8x1536, .f32⟩
  | .hbm, ⟨29, _⟩ => ⟨S8x1536, .f32⟩
  | .hbm, ⟨30, _⟩ => ⟨S8x1536, .f32⟩
  | .hbm, ⟨31, _⟩ => ⟨S8x1536, .f32⟩
  | .hbm, ⟨32, _⟩ => ⟨S1x512, .i32⟩
  | .hbm, ⟨33, _⟩ => ⟨S512, .i32⟩
  | .local _ .vmem, ⟨0, _⟩ => ⟨S12288x128, .f32⟩
  | .local _ .vmem, ⟨1, _⟩ => ⟨S1x128, .f32⟩
  | .local _ .vmem, ⟨2, _⟩ => ⟨S1x128, .f32⟩
  | .local _ .vmem, ⟨3, _⟩ => ⟨S12288x128, .f32⟩
  | .local _ .vmem, ⟨4, _⟩ => ⟨S256x12288, .f32⟩
  | .local _ .vmem, ⟨5, _⟩ => ⟨S256x12288, .f32⟩
  | .local _ .vmem, ⟨6, _⟩ => ⟨S12288x256, .f32⟩
  | .local _ .vmem, ⟨7, _⟩ => ⟨S256x128, .f32⟩
  | .local _ .vmem, ⟨8, _⟩ => ⟨S256x128, .f32⟩
  | .local _ .vmem, ⟨9, _⟩ => ⟨S1x128, .f32⟩
  | .local _ .vmem, ⟨10, _⟩ => ⟨S1x256x1, .f32⟩
  | .local _ .vmem, ⟨11, _⟩ => ⟨S1x256x1, .f32⟩
  | .local _ .vmem, ⟨12, _⟩ => ⟨S1x256x1, .f32⟩
  | .local _ .vmem, ⟨13, _⟩ => ⟨S1x256x1, .f32⟩
  | .local _ .vmem, ⟨14, _⟩ => ⟨S1x256x1, .f32⟩
  | .local _ .vmem, ⟨15, _⟩ => ⟨S1x256x1, .f32⟩
  | .local _ .vmem, ⟨16, _⟩ => ⟨S1x256x1, .f32⟩
  | .local _ .vmem, ⟨17, _⟩ => ⟨S1x256x1, .f32⟩
  | .local _ .vmem, ⟨18, _⟩ => ⟨S8x1536, .f32⟩
  | .local _ .vmem, ⟨19, _⟩ => ⟨S8x1536, .f32⟩
  | .local _ .vmem, ⟨20, _⟩ => ⟨S8x1536, .f32⟩
  | .local _ .vmem, ⟨21, _⟩ => ⟨S8x1536, .f32⟩
  | .local _ .vmem, ⟨22, _⟩ => ⟨S1x512, .i32⟩
  | .local _ .smem, ⟨0, _⟩ => ⟨S1, .f32⟩
  | _, _ => ⟨S12288x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .smem, ⟨0, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15_0 : Ref sig .tc := ⟨.hbm, 24, rfl⟩
abbrev main_v15_1 : Ref sig .tc := ⟨.hbm, 25, rfl⟩
abbrev main_v15_2 : Ref sig .tc := ⟨.hbm, 26, rfl⟩
abbrev main_v15_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg2_1 : Ref sig .tc := ⟨.vmem, 8, rfl⟩
abbrev cc1_stg3_0 : Ref sig .tc := ⟨.vmem, 9, rfl⟩
abbrev cc1_stg5_0 : Ref sig .tc := ⟨.vmem, 10, rfl⟩
abbrev cc1_stg5_1 : Ref sig .tc := ⟨.vmem, 11, rfl⟩
abbrev cc1_stg6_0 : Ref sig .tc := ⟨.vmem, 12, rfl⟩
abbrev cc1_stg6_1 : Ref sig .tc := ⟨.vmem, 13, rfl⟩
abbrev cc1_stg7_0 : Ref sig .tc := ⟨.vmem, 14, rfl⟩
abbrev cc1_stg7_1 : Ref sig .tc := ⟨.vmem, 15, rfl⟩
abbrev cc1_stg8_0 : Ref sig .tc := ⟨.vmem, 16, rfl⟩
abbrev cc1_stg8_1 : Ref sig .tc := ⟨.vmem, 17, rfl⟩
abbrev cc2_stg0_0 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc1_stg4_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8
abbrev cc1_sem3_0 : DmaSem sig := 9
abbrev cc1_sem4_0 : DmaSem sig := 10
abbrev cc1_sem5_0 : DmaSem sig := 11
abbrev cc1_sem5_1 : DmaSem sig := 12
abbrev cc1_sem6_0 : DmaSem sig := 13
abbrev cc1_sem6_1 : DmaSem sig := 14
abbrev cc1_sem7_0 : DmaSem sig := 15
abbrev cc1_sem7_1 : DmaSem sig := 16
abbrev cc1_sem8_0 : DmaSem sig := 17
abbrev cc1_sem8_1 : DmaSem sig := 18
abbrev cc2_sem0_0 : DmaSem sig := 19
abbrev cc2_sem1_0 : DmaSem sig := 20
abbrev cc2_sem2_0 : DmaSem sig := 21
abbrev cc2_sem3_0 : DmaSem sig := 22
abbrev cc2_sem4_0 : DmaSem sig := 23

abbrev nD : Nat := 1
abbrev τ : Topo := Topo.v7x

variable {F : FTy → Type} [FloatOps F]

abbrev grid0 : Pipeline.Grid := .none

abbrev stage0_0 : Fin 1 → Memref sig .tc .vmem S12288x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S12288x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev grid1 : Pipeline.Grid := ⟨1, ![48], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S256x12288 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S12288x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .smem S1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1x256x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x256x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x256x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1x256x1 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := .none

@[reducible] def k2_t1_loop : Scf.Loop 32 :=
  let c0_i32_13 : BitVec 32 := 0#32
  let c512_i32 : BitVec 32 := 512#32
  let v50 : BitVec 32 := Scalar.addi c0_i32_13 c512_i32
  let c1_i32 : BitVec 32 := 1#32
  ⟨c0_i32_13, v50, c1_i32⟩
abbrev stage2_0 : Fin 1 → Memref sig .tc .vmem S8x1536 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S8x1536 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S8x1536 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S8x1536 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S1x512 .i32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
-- ==== ReferenceIdeal.lean ====
abbrev S12288x12288 : Shape := ⟨2, ![12288, 12288]⟩
abbrev S12288x128 : Shape := ⟨2, ![12288, 128]⟩
abbrev S12288 : Shape := ⟨1, ![12288]⟩
abbrev S128 : Shape := ⟨1, ![128]⟩
abbrev S1 : Shape := ⟨1, ![1]⟩
abbrev S_ : Shape := ⟨0, ![]⟩
abbrev S1x128 : Shape := ⟨2, ![1, 128]⟩
abbrev S12288x1 : Shape := ⟨2, ![12288, 1]⟩
abbrev S1x12288 : Shape := ⟨2, ![1, 12288]⟩
abbrev S12288x128x1 : Shape := ⟨3, ![12288, 128, 1]⟩
abbrev S10 : Shape := ⟨1, ![10]⟩
abbrev S1x1x10 : Shape := ⟨3, ![1, 1, 10]⟩
abbrev S12288x128x10 : Shape := ⟨3, ![12288, 128, 10]⟩
abbrev S12288x10 : Shape := ⟨2, ![12288, 10]⟩
abbrev S512 : Shape := ⟨1, ![512]⟩

abbrev nBuf : Space → Nat
  | .hbm => 202
  | .vmem => 0
  | .smem => 0
  | _ => 0

abbrev hbmTy0_0 (i : Nat) : BufTy := match i % 128 with
  | 0 => ⟨S12288x12288, .f32⟩
  | 1 => ⟨S12288x128, .f32⟩
  | 2 => ⟨S12288, .i32⟩
  | 3 => ⟨S128, .f32⟩
  | 4 => ⟨S128, .f32⟩
  | 5 => ⟨S128, .f32⟩
  | 6 => ⟨S1, .f32⟩
  | 7 => ⟨S_, .f32⟩
  | 8 => ⟨S128, .f32⟩
  | 9 => ⟨S_, .f32⟩
  | 10 => ⟨S128, .f32⟩
  | 11 => ⟨S128, .f32⟩
  | 12 => ⟨S_, .i32⟩
  | 13 => ⟨S_, .f32⟩
  | 14 => ⟨S128, .f32⟩
  | 15 => ⟨S1x128, .f32⟩
  | 16 => ⟨S_, .f32⟩
  | 17 => ⟨S1x128, .f32⟩
  | 18 => ⟨S1x128, .f32⟩
  | 19 => ⟨S12288x128, .f32⟩
  | 20 => ⟨S12288x128, .f32⟩
  | 21 => ⟨S12288x128, .f32⟩
  | 22 => ⟨S_, .f32⟩
  | 23 => ⟨S_, .f32⟩
  | 24 => ⟨S_, .f32⟩
  | 25 => ⟨S_, .f32⟩
  | 26 => ⟨S128, .f32⟩
  | 27 => ⟨S128, .f32⟩
  | 28 => ⟨S128, .f32⟩
  | 29 => ⟨S_, .f32⟩
  | 30 => ⟨S_, .i1⟩
  | 31 => ⟨S_, .f32⟩
  | 32 => ⟨S_, .f32⟩
  | 33 => ⟨S128, .f32⟩
  | 34 => ⟨S128, .f32⟩
  | 35 => ⟨S1x128, .f32⟩
  | 36 => ⟨S12288x128, .f32⟩
  | 37 => ⟨S12288x128, .f32⟩
  | 38 => ⟨S_, .f32⟩
  | 39 => ⟨S128, .f32⟩
  | 40 => ⟨S128, .f32⟩
  | 41 => ⟨S128, .f32⟩
  | 42 => ⟨S1x128, .f32⟩
  | 43 => ⟨S12288x128, .f32⟩
  | 44 => ⟨S12288x128, .f32⟩
  | 45 => ⟨S1x128, .f32⟩
  | 46 => ⟨S12288x128, .f32⟩
  | 47 => ⟨S12288x128, .f32⟩
  | 48 => ⟨S1x128, .f32⟩
  | 49 => ⟨S12288x128, .f32⟩
  | 50 => ⟨S12288x128, .f32⟩
  | 51 => ⟨S_, .f32⟩
  | 52 => ⟨S12288, .f32⟩
  | 53 => ⟨S12288x1, .f32⟩
  | 54 => ⟨S12288x12288, .f32⟩
  | 55 => ⟨S12288x12288, .f32⟩
  | 56 => ⟨S12288x128, .f32⟩
  | 57 => ⟨S12288x128, .f32⟩
  | 58 => ⟨S12288x128, .f32⟩
  | 59 => ⟨S_, .f32⟩
  | 60 => ⟨S12288, .f32⟩
  | 61 => ⟨S12288, .f32⟩
  | 62 => ⟨S12288, .f32⟩
  | 63 => ⟨S_, .f32⟩
  | 64 => ⟨S12288, .f32⟩
  | 65 => ⟨S12288, .f32⟩
  | 66 => ⟨S_, .f32⟩
  | 67 => ⟨S12288, .f32⟩
  | 68 => ⟨S12288, .f32⟩
  | 69 => ⟨S12288, .f32⟩
  | 70 => ⟨S12288, .f32⟩
  | 71 => ⟨S_, .f32⟩
  | 72 => ⟨S12288, .f32⟩
  | 73 => ⟨S12288, .f32⟩
  | 74 => ⟨S_, .f32⟩
  | 75 => ⟨S_, .f32⟩
  | 76 => ⟨S_, .f32⟩
  | 77 => ⟨S_, .f32⟩
  | 78 => ⟨S1, .f32⟩
  | 79 => ⟨S12288, .f32⟩
  | 80 => ⟨S12288, .f32⟩
  | 81 => ⟨S12288, .f32⟩
  | 82 => ⟨S_, .f32⟩
  | 83 => ⟨S_, .f32⟩
  | 84 => ⟨S1, .f32⟩
  | 85 => ⟨S12288, .f32⟩
  | 86 => ⟨S12288, .f32⟩
  | 87 => ⟨S12288, .f32⟩
  | 88 => ⟨S_, .f32⟩
  | 89 => ⟨S12288x12288, .f32⟩
  | 90 => ⟨S12288x12288, .i1⟩
  | 91 => ⟨S1x12288, .i32⟩
  | 92 => ⟨S_, .i32⟩
  | 93 => ⟨S_, .i32⟩
  | 94 => ⟨S12288x12288, .i32⟩
  | 95 => ⟨S12288x12288, .i32⟩
  | 96 => ⟨S12288x12288, .i32⟩
  | 97 => ⟨S_, .i32⟩
  | 98 => ⟨S12288, .i32⟩
  | 99 => ⟨S_, .i32⟩
  | 100 => ⟨S_, .i32⟩
  | 101 => ⟨S12288x12288, .i32⟩
  | 102 => ⟨S12288x12288, .i32⟩
  | 103 => ⟨S12288x12288, .i32⟩
  | 104 => ⟨S_, .i32⟩
  | 105 => ⟨S12288, .i32⟩
  | 106 => ⟨S_, .i1⟩
  | 107 => ⟨S12288, .i1⟩
  | 108 => ⟨S12288, .i1⟩
  | 109 => ⟨S12288, .i1⟩
  | 110 => ⟨S12288, .f32⟩
  | 111 => ⟨S_, .f32⟩
  | 112 => ⟨S12288, .f32⟩
  | 113 => ⟨S12288x1, .f32⟩
  | 114 => ⟨S_, .f32⟩
  | 115 => ⟨S12288, .f32⟩
  | 116 => ⟨S12288x1, .f32⟩
  | 117 => ⟨S12288x1, .f32⟩
  | 118 => ⟨S_, .f32⟩
  | 119 => ⟨S12288x1, .f32⟩
  | 120 => ⟨S12288x1, .i1⟩
  | 121 => ⟨S12288x1, .f32⟩
  | 122 => ⟨S_, .f32⟩
  | 123 => ⟨S_, .f32⟩
  | 124 => ⟨S12288x1, .f32⟩
  | 125 => ⟨S12288x1, .f32⟩
  | 126 => ⟨S12288x128, .f32⟩
  | 127 => ⟨S12288x128, .f32⟩
  | _ => ⟨S12288x12288, .f32⟩

abbrev hbmTy0_1 (i : Nat) : BufTy := match i % 128 with
  | 0 => ⟨S12288x128, .f32⟩
  | 1 => ⟨S12288x128, .f32⟩
  | 2 => ⟨S_, .f32⟩
  | 3 => ⟨S12288x128, .f32⟩
  | 4 => ⟨S12288x128, .f32⟩
  | 5 => ⟨S12288x128, .f32⟩
  | 6 => ⟨S12288x128, .i32⟩
  | 7 => ⟨S_, .i32⟩
  | 8 => ⟨S_, .i32⟩
  | 9 => ⟨S_, .i32⟩
  | 10 => ⟨S12288x128, .i32⟩
  | 11 => ⟨S12288x128, .i32⟩
  | 12 => ⟨S_, .i32⟩
  | 13 => ⟨S12288x128, .i32⟩
  | 14 => ⟨S12288x128, .i32⟩
  | 15 => ⟨S12288x128x1, .i32⟩
  | 16 => ⟨S10, .i32⟩
  | 17 => ⟨S1x1x10, .i32⟩
  | 18 => ⟨S12288x128x10, .i32⟩
  | 19 => ⟨S12288x128x10, .i32⟩
  | 20 => ⟨S12288x128x10, .i1⟩
  | 21 => ⟨S12288x128x10, .i32⟩
  | 22 => ⟨S_, .i32⟩
  | 23 => ⟨S12288x10, .i32⟩
  | 24 => ⟨S12288x10, .f32⟩
  | 25 => ⟨S_, .f32⟩
  | 26 => ⟨S12288, .f32⟩
  | 27 => ⟨S12288x1, .f32⟩
  | 28 => ⟨S12288x10, .f32⟩
  | 29 => ⟨S12288x10, .f32⟩
  | 30 => ⟨S_, .f32⟩
  | 31 => ⟨S12288x10, .f32⟩
  | 32 => ⟨S12288x10, .f32⟩
  | 33 => ⟨S_, .f32⟩
  | 34 => ⟨S12288, .f32⟩
  | 35 => ⟨S12288x1, .f32⟩
  | 36 => ⟨S12288x10, .f32⟩
  | 37 => ⟨S12288x10, .f32⟩
  | 38 => ⟨S12288x10, .f32⟩
  | 39 => ⟨S12288x10, .f32⟩
  | 40 => ⟨S_, .f32⟩
  | 41 => ⟨S12288, .f32⟩
  | 42 => ⟨S12288, .f32⟩
  | 43 => ⟨S_, .f32⟩
  | 44 => ⟨S_, .f32⟩
  | 45 => ⟨S12288, .f32⟩
  | 46 => ⟨S12288, .f32⟩
  | 47 => ⟨S_, .f32⟩
  | 48 => ⟨S_, .f32⟩
  | 49 => ⟨S_, .f32⟩
  | 50 => ⟨S_, .f32⟩
  | 51 => ⟨S_, .f32⟩
  | 52 => ⟨S_, .f32⟩
  | 53 => ⟨S_, .f32⟩
  | 54 => ⟨S12288, .f32⟩
  | 55 => ⟨S12288, .f32⟩
  | 56 => ⟨S_, .f32⟩
  | 57 => ⟨S12288, .f32⟩
  | 58 => ⟨S12288, .f32⟩
  | 59 => ⟨S_, .f32⟩
  | 60 => ⟨S12288, .f32⟩
  | 61 => ⟨S12288, .f32⟩
  | 62 => ⟨S12288, .f32⟩
  | 63 => ⟨S12288, .f32⟩
  | 64 => ⟨S12288, .f32⟩
  | 65 => ⟨S12288, .f32⟩
  | 66 => ⟨S_, .f32⟩
  | 67 => ⟨S12288, .f32⟩
  | 68 => ⟨S12288, .f32⟩
  | 69 => ⟨S_, .f32⟩
  | 70 => ⟨S12288, .f32⟩
  | 71 => ⟨S12288, .f32⟩
  | 72 => ⟨S512, .f32⟩
  | 73 => ⟨S512, .i32⟩
  | _ => ⟨S12288x12288, .f32⟩

abbrev hbmTy (i : Nat) : BufTy := match i / 128 with
  | 0 => hbmTy0_0 i
  | 1 => hbmTy0_1 i
  | _ => ⟨S12288x12288, .f32⟩

abbrev bufTy : (tb : Table) → Fin (tcTables nBuf tb) → BufTy
  | .hbm, ⟨i, _⟩ => hbmTy i
  | _, _ => ⟨S12288x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_call0_cst : Ref sig .tc := ⟨.hbm, 13, rfl⟩
abbrev main_call0_v0 : Ref sig .tc := ⟨.hbm, 14, rfl⟩
abbrev main_call0_v1 : Ref sig .tc := ⟨.hbm, 15, rfl⟩
abbrev main_call0_cst_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_cst_1 : Ref sig .tc := ⟨.hbm, 23, rfl⟩
abbrev main_call0_v8 : Ref sig .tc := ⟨.hbm, 24, rfl⟩
abbrev main_call0_cst_2 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_cst_3 : Ref sig .tc := ⟨.hbm, 29, rfl⟩
abbrev main_call0_v12 : Ref sig .tc := ⟨.hbm, 30, rfl⟩
abbrev main_call0_cst_4 : Ref sig .tc := ⟨.hbm, 31, rfl⟩
abbrev main_call0_call0_v0 : Ref sig .tc := ⟨.hbm, 32, rfl⟩
abbrev main_call0_call0_v1 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_cst_1 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_cst_2 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_cst_3 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_cst_4 : Ref sig .tc := ⟨.hbm, 63, rfl⟩
abbrev main_v29 : Ref sig .tc := ⟨.hbm, 64, rfl⟩
abbrev main_v30 : Ref sig .tc := ⟨.hbm, 65, rfl⟩
abbrev main_cst_5 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_cst_6 : Ref sig .tc := ⟨.hbm, 74, rfl⟩
abbrev main_v38 : Ref sig .tc := ⟨.hbm, 75, rfl⟩
abbrev main_cst_7 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_cst_8 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_cst_9 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_c_10 : Ref sig .tc := ⟨.hbm, 92, rfl⟩
abbrev main_call1_v0 : Ref sig .tc := ⟨.hbm, 93, rfl⟩
abbrev main_call1_v1 : Ref sig .tc := ⟨.hbm, 94, rfl⟩
abbrev main_call1_v2 : Ref sig .tc := ⟨.hbm, 95, rfl⟩
abbrev main_v52 : Ref sig .tc := ⟨.hbm, 96, rfl⟩
abbrev main_c_11 : Ref sig .tc := ⟨.hbm, 97, rfl⟩
abbrev main_v53 : Ref sig .tc := ⟨.hbm, 98, rfl⟩
abbrev main_c_12 : Ref sig .tc := ⟨.hbm, 99, rfl⟩
abbrev main_call2_v0 : Ref sig .tc := ⟨.hbm, 100, rfl⟩
abbrev main_call2_v1 : Ref sig .tc := ⟨.hbm, 101, rfl⟩
abbrev main_call2_v2 : Ref sig .tc := ⟨.hbm, 102, rfl⟩
abbrev main_v54 : Ref sig .tc := ⟨.hbm, 103, rfl⟩
abbrev main_c_13 : Ref sig .tc := ⟨.hbm, 104, rfl⟩
abbrev main_v55 : Ref sig .tc := ⟨.hbm, 105, rfl⟩
abbrev main_c_14 : Ref sig .tc := ⟨.hbm, 106, rfl⟩
abbrev main_v56 : Ref sig .tc := ⟨.hbm, 107, rfl⟩
abbrev main_v57 : Ref sig .tc := ⟨.hbm, 108, rfl⟩
abbrev main_v58 : Ref sig .tc := ⟨.hbm, 109, rfl⟩
abbrev main_v59 : Ref sig .tc := ⟨.hbm, 110, rfl⟩
abbrev main_cst_15 : Ref sig .tc := ⟨.hbm, 111, rfl⟩
abbrev main_v60 : Ref sig .tc := ⟨.hbm, 112, rfl⟩
abbrev main_v61 : Ref sig .tc := ⟨.hbm, 113, rfl⟩
abbrev main_cst_16 : Ref sig .tc := ⟨.hbm, 114, rfl⟩
abbrev main_v62 : Ref sig .tc := ⟨.hbm, 115, rfl⟩
abbrev main_v63 : Ref sig .tc := ⟨.hbm, 116, rfl⟩
abbrev main_v64 : Ref sig .tc := ⟨.hbm, 117, rfl⟩
abbrev main_cst_17 : Ref sig .tc := ⟨.hbm, 118, rfl⟩
abbrev main_v65 : Ref sig .tc := ⟨.hbm, 119, rfl⟩
abbrev main_v66 : Ref sig .tc := ⟨.hbm, 120, rfl⟩
abbrev main_v67 : Ref sig .tc := ⟨.hbm, 121, rfl⟩
abbrev main_cst_18 : Ref sig .tc := ⟨.hbm, 122, rfl⟩
abbrev main_call3_v0 : Ref sig .tc := ⟨.hbm, 123, rfl⟩
abbrev main_call3_v1 : Ref sig .tc := ⟨.hbm, 124, rfl⟩
abbrev main_v68 : Ref sig .tc := ⟨.hbm, 125, rfl⟩
abbrev main_v69 : Ref sig .tc := ⟨.hbm, 126, rfl⟩
abbrev main_v70 : Ref sig .tc := ⟨.hbm, 127, rfl⟩
abbrev main_v71 : Ref sig .tc := ⟨.hbm, 128, rfl⟩
abbrev main_v72 : Ref sig .tc := ⟨.hbm, 129, rfl⟩
abbrev main_cst_19 : Ref sig .tc := ⟨.hbm, 130, rfl⟩
abbrev main_v73 : Ref sig .tc := ⟨.hbm, 131, rfl⟩
abbrev main_v74 : Ref sig .tc := ⟨.hbm, 132, rfl⟩
abbrev main_v75 : Ref sig .tc := ⟨.hbm, 133, rfl⟩
abbrev main_v76 : Ref sig .tc := ⟨.hbm, 134, rfl⟩
abbrev main_c_20 : Ref sig .tc := ⟨.hbm, 135, rfl⟩
abbrev main_c_21 : Ref sig .tc := ⟨.hbm, 136, rfl⟩
abbrev main_call4_v0 : Ref sig .tc := ⟨.hbm, 137, rfl⟩
abbrev main_call4_v1 : Ref sig .tc := ⟨.hbm, 138, rfl⟩
abbrev main_call4_v2 : Ref sig .tc := ⟨.hbm, 139, rfl⟩
abbrev main_call4_v3 : Ref sig .tc := ⟨.hbm, 140, rfl⟩
abbrev main_call4_v4 : Ref sig .tc := ⟨.hbm, 141, rfl⟩
abbrev main_v77 : Ref sig .tc := ⟨.hbm, 142, rfl⟩
abbrev main_v78 : Ref sig .tc := ⟨.hbm, 143, rfl⟩
abbrev main_v79 : Ref sig .tc := ⟨.hbm, 144, rfl⟩
abbrev main_v80 : Ref sig .tc := ⟨.hbm, 145, rfl⟩
abbrev main_v81 : Ref sig .tc := ⟨.hbm, 146, rfl⟩
abbrev main_v82 : Ref sig .tc := ⟨.hbm, 147, rfl⟩
abbrev main_v83 : Ref sig .tc := ⟨.hbm, 148, rfl⟩
abbrev main_v84 : Ref sig .tc := ⟨.hbm, 149, rfl⟩
abbrev main_c_22 : Ref sig .tc := ⟨.hbm, 150, rfl⟩
abbrev main_v85 : Ref sig .tc := ⟨.hbm, 151, rfl⟩
abbrev main_v86 : Ref sig .tc := ⟨.hbm, 152, rfl⟩
abbrev main_cst_23 : Ref sig .tc := ⟨.hbm, 153, rfl⟩
abbrev main_v87 : Ref sig .tc := ⟨.hbm, 154, rfl⟩
abbrev main_v88 : Ref sig .tc := ⟨.hbm, 155, rfl⟩
abbrev main_v89 : Ref sig .tc := ⟨.hbm, 156, rfl⟩
abbrev main_v90 : Ref sig .tc := ⟨.hbm, 157, rfl⟩
abbrev main_cst_24 : Ref sig .tc := ⟨.hbm, 158, rfl⟩
abbrev main_v91 : Ref sig .tc := ⟨.hbm, 159, rfl⟩
abbrev main_v92 : Ref sig .tc := ⟨.hbm, 160, rfl⟩
abbrev main_cst_25 : Ref sig .tc := ⟨.hbm, 161, rfl⟩
abbrev main_v93 : Ref sig .tc := ⟨.hbm, 162, rfl⟩
abbrev main_v94 : Ref sig .tc := ⟨.hbm, 163, rfl⟩
abbrev main_v95 : Ref sig .tc := ⟨.hbm, 164, rfl⟩
abbrev main_v96 : Ref sig .tc := ⟨.hbm, 165, rfl⟩
abbrev main_v97 : Ref sig .tc := ⟨.hbm, 166, rfl⟩
abbrev main_v98 : Ref sig .tc := ⟨.hbm, 167, rfl⟩
abbrev main_cst_26 : Ref sig .tc := ⟨.hbm, 168, rfl⟩
abbrev main_v99 : Ref sig .tc := ⟨.hbm, 169, rfl⟩
abbrev main_v100 : Ref sig .tc := ⟨.hbm, 170, rfl⟩
abbrev main_cst_27 : Ref sig .tc := ⟨.hbm, 171, rfl⟩
abbrev main_v101 : Ref sig .tc := ⟨.hbm, 172, rfl⟩
abbrev main_v102 : Ref sig .tc := ⟨.hbm, 173, rfl⟩
abbrev main_v103 : Ref sig .tc := ⟨.hbm, 174, rfl⟩
abbrev main_cst_28 : Ref sig .tc := ⟨.hbm, 175, rfl⟩
abbrev main_v104 : Ref sig .tc := ⟨.hbm, 176, rfl⟩
abbrev main_cst_29 : Ref sig .tc := ⟨.hbm, 177, rfl⟩
abbrev main_v105 : Ref sig .tc := ⟨.hbm, 178, rfl⟩
abbrev main_v106 : Ref sig .tc := ⟨.hbm, 179, rfl⟩
abbrev main_cst_30 : Ref sig .tc := ⟨.hbm, 180, rfl⟩
abbrev main_v107 : Ref sig .tc := ⟨.hbm, 181, rfl⟩
abbrev main_v108 : Ref sig .tc := ⟨.hbm, 182, rfl⟩
abbrev main_v109 : Ref sig .tc := ⟨.hbm, 183, rfl⟩
abbrev main_cst_31 : Ref sig .tc := ⟨.hbm, 184, rfl⟩
abbrev main_v110 : Ref sig .tc := ⟨.hbm, 185, rfl⟩
abbrev main_v111 : Ref sig .tc := ⟨.hbm, 186, rfl⟩
abbrev main_cst_32 : Ref sig .tc := ⟨.hbm, 187, rfl⟩
abbrev main_v112 : Ref sig .tc := ⟨.hbm, 188, rfl⟩
abbrev main_v113 : Ref sig .tc := ⟨.hbm, 189, rfl⟩
abbrev main_v114 : Ref sig .tc := ⟨.hbm, 190, rfl⟩
abbrev main_v115 : Ref sig .tc := ⟨.hbm, 191, rfl⟩
abbrev main_v116 : Ref sig .tc := ⟨.hbm, 192, rfl⟩
abbrev main_v117 : Ref sig .tc := ⟨.hbm, 193, rfl⟩
abbrev main_cst_33 : Ref sig .tc := ⟨.hbm, 194, rfl⟩
abbrev main_v118 : Ref sig .tc := ⟨.hbm, 195, rfl⟩
abbrev main_v119 : Ref sig .tc := ⟨.hbm, 196, rfl⟩
abbrev main_cst_34 : Ref sig .tc := ⟨.hbm, 197, rfl⟩
abbrev main_v120 : Ref sig .tc := ⟨.hbm, 198, rfl⟩
abbrev main_v121 : Ref sig .tc := ⟨.hbm, 199, rfl⟩
abbrev main_values : Ref sig .tc := ⟨.hbm, 200, rfl⟩
abbrev main_indices : Ref sig .tc := ⟨.hbm, 201, rfl⟩

abbrev nD : Nat := 1
abbrev τ : Topo := Topo.v7x

variable {F : FTy → Type} [FloatOps F]
-- ==== Proof.RefRun.lean ====
module

public import proofs.«01_k».proof.Proof.Gen.ReferenceIdeal.Run
public import Idealize.ShloMosaic.PureOps.Ideal

/-!
The reference's run, with its semaphore counters: the program declares no semaphore, so every counter is zero.
-/

@[expose] public section

noncomputable section

namespace Cert.Own

open Idealize.ShloMosaic Idealize.SL.Sem Cert.ReferenceIdeal

/-- The reference program has no semaphore on any thread. -/
theorem ref_no_sem : ∀ sm : SemLoc Cert.ReferenceIdeal.sig, False := by decide

/-- The reference's frame: it terminates, leaves its seven arguments as they were, and every counter is zero. -/
theorem ref_frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run (defs (F := Ideal)) _ _).mono (fun _ h => ⟨fun c => (h c).2.2.2, funext fun g => (ref_no_sem g.2).elim⟩)
    (Cert.ReferenceIdeal.Value.run (F := Ideal) m ρ)

end Cert.Own

end
-- ==== Proof.Scalars.lean ====
module

public import Idealize.ShloMosaic.Lib.Pointwise

/-!
Facts about extended reals and about the programs' literal constants, free of any program.
-/

@[expose] public section

noncomputable section

namespace Cert.Own

open Idealize.ShloMosaic

/-- The number of nodes, as both programs write it. -/
theorem lit_nodes : Ideal.ofBits .f32 1178599424#32 = ((12288 : ℝ) : EReal) := by
  simp [Ideal.ofBits, Ideal.ieee, -EReal.coe_mul]; norm_num

/-- The batch norm's epsilon is a positive real. -/
theorem lit_eps : ∃ e : ℝ, 0 < e ∧ Ideal.ofBits .f32 925353388#32 = (e : EReal) := by
  refine ⟨_, ?_, by simp [Ideal.ofBits, Ideal.ieee, -EReal.coe_mul]; rfl⟩
  norm_num

/-- The histogram's smoothing constant is a positive real. -/
theorem lit_tiny : ∃ e : ℝ, 0 < e ∧ Ideal.ofBits .f32 786163455#32 = (e : EReal) := by
  refine ⟨_, ?_, by simp [Ideal.ofBits, Ideal.ieee, -EReal.coe_mul]; rfl⟩
  norm_num

/-- The pattern from which minima start is `⊤`. -/
theorem lit_top : Ideal.ofBits .f32 2139095040#32 = ⊤ := by
  simp [Ideal.ofBits, Ideal.ieee]

/-- The pattern from which maxima start is `⊥`. -/
theorem lit_bot : Ideal.ofBits .f32 4286578688#32 = ⊥ := by
  simp [Ideal.ofBits, Ideal.ieee]

/-- The mark that the selection writes over a taken score. -/
theorem lit_neg_one : Ideal.ofBits .f32 3212836864#32 = ((-1 : ℝ) : EReal) := by
  simp [Ideal.ofBits, Ideal.ieee, -EReal.coe_mul]; norm_num

/-- A square is not negative. -/
theorem ereal_mul_self_nonneg (x : EReal) : 0 ≤ x * x := by
  induction x with
  | bot => simp
  | top => simp
  | coe r => rw [← EReal.coe_mul]; exact_mod_cast mul_self_nonneg r

/-- Multiplying by the reciprocal square root of a positive number is dividing by its square root. -/
theorem mul_rsqrt_eq_div_sqrt (x v : EReal) (hv : 0 < v) : x * Ideal.rsqrt v = Ideal.div x (Ideal.sqrt v) := by
  induction v with
  | bot => simp at hv
  | top => simp [Ideal.div]
  | coe r =>
    have hr : 0 < r := by exact_mod_cast hv
    have hs : Real.sqrt r ≠ 0 := (Real.sqrt_pos.mpr hr).ne'
    rw [Ideal.rsqrt_coe, Ideal.sqrt_coe, if_neg hr.le.not_gt, if_neg hr.ne', if_neg hr.le.not_gt, Ideal.div_coe hs, one_div]

/-- A factor that is a non-negative real goes through a finite sum. -/
theorem sum_mul_coe {ι : Type} (s : Finset ι) (f : ι → EReal) (a : ℝ) (ha : 0 ≤ a) :
    ∑ k ∈ s, f k * (a : EReal) = (∑ k ∈ s, f k) * (a : EReal) := by
  classical
  induction s using Finset.induction_on with
  | empty => simp
  | insert b s hb ih =>
    rw [Finset.sum_insert hb, Finset.sum_insert hb, ih,
      EReal.right_distrib_of_nonneg_of_ne_top (by exact_mod_cast ha) (EReal.coe_ne_top a)]

/-- A row's weighted mean: dividing the weighted sum by a positive total is summing with every weight divided by it. -/
theorem weighted_mean {ι : Type} (s : Finset ι) (g h : ι → EReal) (D : EReal) (hD : 0 < D) :
    Ideal.div (∑ k ∈ s, g k * h k) D = ∑ k ∈ s, Ideal.div (g k) D * h k := by
  induction D with
  | bot => simp at hD
  | top => simp [Ideal.div]
  | coe r =>
    have hr : 0 < r := by exact_mod_cast hD
    rw [Ideal.div_coe hr.ne', ← sum_mul_coe _ _ _ (by positivity)]
    refine Finset.sum_congr rfl fun k _ => ?_
    rw [Ideal.div_coe hr.ne', mul_assoc, mul_comm (h k), mul_assoc]

end Cert.Own

end
-- ==== Proof.Bn.lean ====
module

public import proofs.«01_k».proof.Proof.Gen.KernelIdeal.Skeleton
public import proofs.«01_k».proof.Proof.Gen.ReferenceIdeal.Read
public import proofs.«01_k».proof.Proof.Scalars

/-!
The batch norm: the kernel's first body computes the reference's normalized features.
-/

@[expose] public section

set_option maxRecDepth 16384

noncomputable section

namespace Cert.Own

open Idealize.ShloMosaic Cert.KernelIdeal.Gen Cert.ReferenceIdeal.Read

/-- Entry `(r, c)` of the kernel's normalized features is the reference's, the scale and the shift being read from rows
    that hold the same numbers. -/
theorem bn_entry (h : FVec Ideal Cert.ReferenceIdeal.S12288x128 .f32) (ga be : FVec Ideal Cert.ReferenceIdeal.S128 .f32)
    (G B : FVec Ideal Cert.KernelIdeal.S1x128 .f32) (hG : ∀ c : Fin 128, G (ix2 0 c) = ga (ix1 c))
    (hB : ∀ c : Fin 128, B (ix2 0 c) = be (ix1 c)) (r : Fin 12288) (c : Fin 128) :
    k0_pay1 (F := Ideal) h G B (ix2 r c) = val_main_v18 (F := Ideal) h ga be (ix2 r c) := by
  obtain ⟨e, he, hee⟩ := lit_eps
  have h0 : (FloatOps.sitofp (F := Ideal) FTy.f32 0#32 : EReal) = 0 := by
    show (((0#32 : BitVec 32).toInt : ℝ) : EReal) = 0
    simp
  pointwise [k0_pay1, val_main_cst, val_main_v0, val_main_cst_0, val_main_v1, val_main_v2, val_main_c,
    val_main_call0_cst, val_main_call0_v0, val_main_call0_v1, val_main_call0_cst_0, val_main_call0_v2, val_main_call0_v3,
    val_main_call0_v4, val_main_call0_v5, val_main_call0_v6, val_main_call0_v7, val_main_call0_cst_1, val_main_call0_v8,
    val_main_call0_cst_2, val_main_call0_v9, val_main_call0_v10, val_main_call0_v11, val_main_call0_cst_3,
    val_main_call0_v12, val_main_call0_cst_4, val_main_call0_call0_v0, val_main_call0_call0_v1, val_main_v3, val_main_v4,
    val_main_v5, val_main_v6, val_main_cst_1, val_main_v7, val_main_v8, val_main_v9, val_main_v10, val_main_v11,
    val_main_v12, val_main_v13, val_main_v14, val_main_v15, val_main_v16, val_main_v17, val_main_v18]
  have hpos : (0 : EReal) < ((12288 : ℝ) : EReal) := by norm_num
  rw [h0, hee, lit_nodes, sub_zero, if_pos hpos, hG, hB, mul_rsqrt_eq_div_sqrt]
  refine lt_of_lt_of_le (show (0 : EReal) < (e : EReal) by exact_mod_cast he) (le_add_of_nonneg_left ?_)
  rw [Ideal.div_coe (by norm_num)]
  exact mul_nonneg (Finset.sum_nonneg fun k _ => ereal_mul_self_nonneg _) (by norm_num)

end Cert.Own

end
-- ==== Proof.ScanZ.lean ====
module

public import proofs.«01_k».proof.Proof.Gen.KernelIdeal.Skeleton
public import proofs.«01_k».proof.Proof.Gen.ReferenceIdeal.Read
public import proofs.«01_k».proof.Proof.Scalars

/-!
The scan's two score terms: what one block of the kernel's scan stores for a row is what the reference computes for the
node of that row.
-/

@[expose] public section

set_option maxRecDepth 16384

noncomputable section

namespace Cert.Own

open Idealize.ShloMosaic Cert.KernelIdeal.Gen Cert.ReferenceIdeal.Read

variable (x0 : FVec Ideal Cert.ReferenceIdeal.S12288x12288 .f32) (x1 : FVec Ideal Cert.ReferenceIdeal.S12288x128 .f32)
  (x3 x4 x5 : FVec Ideal Cert.ReferenceIdeal.S128 .f32) (x6 : FVec Ideal Cert.ReferenceIdeal.S1 .f32)
  (g : FVec Ideal Cert.KernelIdeal.S256x12288 .f32) (rhs : FVec Ideal Cert.KernelIdeal.S12288x256 .f32)
  (hb : FVec Ideal Cert.KernelIdeal.S256x128 .f32) (r : Fin 256) (i : Fin 12288)

/-- The reference's degree of a node is the sum of its row of weights. -/
theorem ref_degree : val_main_v19 (F := Ideal) x0 (ix1 i) = ∑ j : Fin 12288, x0 (ix2 i j) := by
  pointwise [val_main_v19, val_main_cst_2]

/-- The reference's neighbourhood mean, entry by entry. -/
theorem ref_mean (c : Fin 128) : val_main_v23 (F := Ideal) x0 x1 x3 x4 (ix2 i c)
    = ∑ j : Fin 12288, Ideal.div (x0 (ix2 i j)) (∑ j : Fin 12288, x0 (ix2 i j)) * val_main_v18 (F := Ideal) x1 x3 x4 (ix2 j c) := by
  pointwise [val_main_cst_2, val_main_v19, val_main_v20, val_main_v21, val_main_v22, val_main_v23]

/-- The kernel's neighbourhood mean: its quotient of a weighted sum by the row's degree is the reference's mean. -/
theorem mean_entry (hg : ∀ j : Fin 12288, g (ix2 r j) = x0 (ix2 i j))
    (hrhs : ∀ (j : Fin 12288) (c : Fin 128) (h : (c : ℕ) < 256), rhs (ix2 j ⟨c, h⟩) = val_main_v18 (F := Ideal) x1 x3 x4 (ix2 j c))
    (hD : 0 < ∑ j : Fin 12288, x0 (ix2 i j)) (c : Fin 128) (h : (c : ℕ) < 256) :
    Ideal.div (∑ j : Fin 12288, g (ix2 r j) * rhs (ix2 j ⟨c, h⟩)) (∑ j : Fin 12288, x0 (ix2 i j))
      = val_main_v23 (F := Ideal) x0 x1 x3 x4 (ix2 i c) := by
  rw [ref_mean, ← weighted_mean _ _ _ _ hD]
  simp only [hg, hrhs]

/-- The kernel's column 136 of the product is the row's degree. -/
theorem degree_entry (hg : ∀ j : Fin 12288, g (ix2 r j) = x0 (ix2 i j)) (hone : ∀ j : Fin 12288, rhs (ix2 j 136) = 1) :
    ∑ j : Fin 12288, g (ix2 r j) * rhs (ix2 j 136) = ∑ j : Fin 12288, x0 (ix2 i j) := by
  simp only [hg, hone, mul_one]

/-- The first score term of a row (distance to the neighbourhood mean and squashed degree) is the reference's. -/
theorem z12_entry (hg : ∀ j : Fin 12288, g (ix2 r j) = x0 (ix2 i j))
    (hrhs : ∀ (j : Fin 12288) (c : Fin 128) (h : (c : ℕ) < 256), rhs (ix2 j ⟨c, h⟩) = val_main_v18 (F := Ideal) x1 x3 x4 (ix2 j c))
    (hone : ∀ j : Fin 12288, rhs (ix2 j 136) = 1)
    (hhb : ∀ c : Fin 128, hb (ix2 r c) = val_main_v18 (F := Ideal) x1 x3 x4 (ix2 i c))
    (hD : 0 < ∑ j : Fin 12288, x0 (ix2 i j)) :
    k1_pay6 (F := Ideal) g rhs hb (ix3 0 r 0) = val_main_v33 (F := Ideal) x0 x1 x3 x4 (ix1 i) := by
  pointwise [k1_pay6, k1_pay5, k1_pay4, k1_pay3, k1_pay2, val_main_v24, val_main_v25, val_main_cst_3, val_main_v26,
    val_main_v27, val_main_v28, val_main_cst_4, val_main_v29, val_main_v30, val_main_cst_5, val_main_v31, val_main_v32,
    val_main_v33]
  rw [degree_entry x0 g rhs r i hg hone]
  simp only [mean_entry x0 x1 x3 x4 g rhs r i hg hrhs hD, hhb, ref_degree]
  rfl

/-- The second score term of a row (the linear head on the neighbourhood mean) is the reference's. -/
theorem z3_entry (hg : ∀ j : Fin 12288, g (ix2 r j) = x0 (ix2 i j))
    (hrhs : ∀ (j : Fin 12288) (c : Fin 128) (h : (c : ℕ) < 256), rhs (ix2 j ⟨c, h⟩) = val_main_v18 (F := Ideal) x1 x3 x4 (ix2 j c))
    (hone : ∀ j : Fin 12288, rhs (ix2 j 136) = 1) (w : FVec Ideal Cert.KernelIdeal.S1x128 .f32)
    (hw : ∀ c : Fin 128, w (ix2 0 c) = x5 (ix1 c)) (b : Elt Ideal .f32) (hbias : b = x6 (ix1 0))
    (hD : 0 < ∑ j : Fin 12288, x0 (ix2 i j)) :
    k1_pay7 (F := Ideal) g rhs w b (ix3 0 r 0) = val_main_v37 (F := Ideal) x0 x1 x3 x4 x5 x6 (ix1 i) := by
  pointwise [k1_pay7, k1_pay4, k1_pay3, k1_pay2, val_main_v34, val_main_v35, val_main_v36, val_main_v37]
  rw [degree_entry x0 g rhs r i hg hone]
  simp only [mean_entry x0 x1 x3 x4 g rhs r i hg hrhs hD, hw, hbias]

end Cert.Own

end
-- ==== Proof.Words.lean ====
module

public import Idealize.ShloMosaic.Lib.Pointwise

/-!
Folds over finite sets of 32-bit words: the largest, the smallest, the sum of bits, and a disjunction of bits.
-/

@[expose] public section

noncomputable section

namespace Cert.Own

open Idealize.ShloMosaic

variable {ι : Type} [DecidableEq ι]

/-- The signed maximum of two words, read as integers. -/
theorem toInt_maxsi (a b : BitVec 32) : (IntOp.maxsi a b).toInt = max a.toInt b.toInt := by
  unfold IntOp.maxsi
  split <;> rename_i h <;> simp only [BitVec.slt, decide_eq_true_eq, not_lt] at h <;> omega

/-- The signed minimum of two words, read as integers. -/
theorem toInt_minsi (a b : BitVec 32) : (IntOp.minsi a b).toInt = min a.toInt b.toInt := by
  unfold IntOp.minsi
  split <;> rename_i h <;> simp only [BitVec.slt, decide_eq_true_eq, not_lt] at h <;> omega

/-- The signed maximum of a family of words bounds every word of it and its start, and is one of them. -/
theorem fold_maxsi (b : BitVec 32) (f : ι → BitVec 32) (s : Finset ι) :
    (∀ x ∈ s, (f x).toInt ≤ (s.fold IntOp.maxsi b f).toInt)
      ∧ (s.fold IntOp.maxsi b f = b ∨ ∃ x ∈ s, s.fold IntOp.maxsi b f = f x) := by
  induction s using Finset.induction_on with
  | empty => simp
  | insert a s ha ih =>
    rw [Finset.fold_insert ha]
    refine ⟨fun x hx => ?_, ?_⟩
    · rw [toInt_maxsi]
      rcases Finset.mem_insert.mp hx with rfl | hx
      · exact le_max_left _ _
      · exact (ih.1 x hx).trans (le_max_right _ _)
    · have hc : ∀ u v : BitVec 32, IntOp.maxsi u v = u ∨ IntOp.maxsi u v = v := fun u v => by
        unfold IntOp.maxsi; split <;> simp
      rcases hc (f a) (s.fold IntOp.maxsi b f) with h | h
      · exact Or.inr ⟨a, Finset.mem_insert_self _ _, h⟩
      · rw [h]
        rcases ih.2 with h' | ⟨x, hx, h'⟩
        · exact Or.inl h'
        · exact Or.inr ⟨x, Finset.mem_insert_of_mem hx, h'⟩

/-- The signed minimum of a family of words bounds every word of it from below, and its start, and is one of them. -/
theorem fold_minsi (b : BitVec 32) (f : ι → BitVec 32) (s : Finset ι) :
    (∀ x ∈ s, (s.fold IntOp.minsi b f).toInt ≤ (f x).toInt)
      ∧ (s.fold IntOp.minsi b f = b ∨ ∃ x ∈ s, s.fold IntOp.minsi b f = f x) := by
  induction s using Finset.induction_on with
  | empty => simp
  | insert a s ha ih =>
    rw [Finset.fold_insert ha]
    refine ⟨fun x hx => ?_, ?_⟩
    · rw [toInt_minsi]
      rcases Finset.mem_insert.mp hx with rfl | hx
      · exact min_le_left _ _
      · exact (min_le_right _ _).trans (ih.1 x hx)
    · have hc : ∀ u v : BitVec 32, IntOp.minsi u v = u ∨ IntOp.minsi u v = v := fun u v => by
        unfold IntOp.minsi; split <;> simp
      rcases hc (f a) (s.fold IntOp.minsi b f) with h | h
      · exact Or.inr ⟨a, Finset.mem_insert_self _ _, h⟩
      · rw [h]
        rcases ih.2 with h' | ⟨x, hx, h'⟩
        · exact Or.inl h'
        · exact Or.inr ⟨x, Finset.mem_insert_of_mem hx, h'⟩

/-- The word sum of a family of words is the word of the sum of their values. -/
theorem fold_addi (f : ι → BitVec 32) (s : Finset ι) :
    s.fold IntOp.addi 0#32 f = BitVec.ofNat 32 (∑ x ∈ s, (f x).toNat) := by
  induction s using Finset.induction_on with
  | empty => simp
  | insert a s ha ih =>
    rw [Finset.fold_insert ha, Finset.sum_insert ha, ih, BitVec.ofNat_add, BitVec.ofNat_toNat, BitVec.setWidth_eq]
    rfl

/-- A disjunction of bits is set exactly when one of them is. -/
theorem fold_ori_eq_one (f : ι → BitVec 1) (s : Finset ι) :
    s.fold IntOp.ori 0#1 f = 1#1 ↔ ∃ x ∈ s, f x = 1#1 := by
  induction s using Finset.induction_on with
  | empty => simp
  | insert a s ha ih =>
    have hor : ∀ u v : BitVec 1, IntOp.ori u v = 1#1 ↔ u = 1#1 ∨ v = 1#1 := by decide
    rw [Finset.fold_insert ha, hor, ih]
    simp

end Cert.Own

end
-- ==== Proof.Boundary.lean ====
module

public import proofs.«01_k».proof.Proof.Gen.KernelIdeal.Skeleton
public import proofs.«01_k».proof.Proof.Gen.ReferenceIdeal.Read
public import proofs.«01_k».proof.Proof.Scalars
public import proofs.«01_k».proof.Proof.Words

/-!
The boundary flag: the kernel counts the labels that occur with positive weight among a node's neighbours, the reference
compares the largest with the smallest of them.
-/

@[expose] public section

set_option maxRecDepth 16384

noncomputable section

namespace Cert.Own

open Idealize.ShloMosaic Cert.KernelIdeal.Gen Cert.ReferenceIdeal.Read

/-- A label occurs: some neighbour of positive weight has it. -/
def Occurs (w : Fin 12288 → EReal) (lab : Fin 12288 → BitVec 32) (l : Fin 8) : Prop :=
  ∃ j, 0 < w j ∧ lab j = BitVec.ofNat 32 l

/-- A sum of non-negative weights over the nodes of one label is positive exactly when that label occurs. -/
theorem label_sum_pos (w : Fin 12288 → EReal) (lab : Fin 12288 → BitVec 32) (hw : ∀ j, 0 ≤ w j) (l : Fin 8) :
    0 < ∑ j, w j * (if lab j = BitVec.ofNat 32 l then 1 else 0) ↔ Occurs w lab l := by
  have hn : ∀ j, 0 ≤ w j * (if lab j = BitVec.ofNat 32 l then (1 : EReal) else 0) := fun j => by
    split <;> simp [hw j]
  constructor
  · intro h
    by_contra hno
    refine h.ne' (Finset.sum_eq_zero fun j _ => ?_)
    by_cases hl : lab j = BitVec.ofNat 32 l
    · have : w j = 0 := le_antisymm (not_lt.mp fun hp => hno ⟨j, hp, hl⟩) (hw j)
      simp [this]
    · simp [hl]
  · rintro ⟨j, hp, hl⟩
    refine lt_of_lt_of_le ?_ (Finset.single_le_sum (fun k _ => hn k) (Finset.mem_univ j))
    simpa [hl] using hp

open Classical in
/-- A count of labels exceeds one exactly when two different labels occur. -/
theorem count_gt_one (p : Fin 8 → Prop) :
    (1 : EReal) < ∑ l, (if p l then 1 else 0) ↔ ∃ a b, p a ∧ p b ∧ a ≠ b := by
  have h : (∑ l, (if p l then (1 : EReal) else 0)) = (((Finset.univ.filter p).card : ℝ) : EReal) := by
    have hn : ∀ n : ℕ, n • (1 : EReal) = ((n : ℝ) : EReal) := fun n => by
      induction n with
      | zero => simp
      | succ n ih => rw [succ_nsmul, ih, Nat.cast_succ, EReal.coe_add]; rfl
    rw [Finset.sum_ite, Finset.sum_const_zero, add_zero, Finset.sum_const, hn]
  rw [h, show (1 : EReal) = ((1 : ℝ) : EReal) from rfl, EReal.coe_lt_coe_iff, Nat.one_lt_cast, Finset.one_lt_card]
  simp

/-- The reference's test: among the neighbours of positive weight there is one, and the largest label differs from the
    smallest, exactly when two different labels occur. -/
theorem spread_iff (w : Fin 12288 → EReal) (lab : Fin 12288 → BitVec 32) (hlab : ∀ j, 0 ≤ (lab j).toInt ∧ (lab j).toInt < 8) :
    ((∃ j, 0 < w j) ∧ Finset.univ.fold IntOp.maxsi 2147483648#32 (fun j => if 0 < w j then lab j else 4294967295#32)
        ≠ Finset.univ.fold IntOp.minsi 2147483647#32 (fun j => if 0 < w j then lab j else 9#32))
      ↔ ∃ a b, Occurs w lab a ∧ Occurs w lab b ∧ a ≠ b := by
  have hocc : ∀ j, 0 < w j → ∃ l : Fin 8, lab j = BitVec.ofNat 32 l ∧ Occurs w lab l := fun j hj => by
    have h := hlab j
    have h1 : (lab j).toInt = (lab j).toNat := by
      rw [BitVec.toInt_eq_toNat_cond] at h ⊢
      have := (lab j).isLt
      split <;> rename_i h2
      · rfl
      · rw [if_neg h2] at h; omega
    have hl : (lab j).toNat < 8 := by omega
    have : lab j = BitVec.ofNat 32 (lab j).toNat := by simp
    exact ⟨⟨(lab j).toNat, hl⟩, this, j, hj, this⟩
  have hinj : ∀ a b : Fin 8, BitVec.ofNat 32 a = BitVec.ofNat 32 b → a = b := by decide
  by_cases hex : ∃ j, 0 < w j
  · obtain ⟨j0, hj0⟩ := hex
    obtain ⟨hM, hM'⟩ := fold_maxsi 2147483648#32 (fun j => if 0 < w j then lab j else 4294967295#32) Finset.univ
    obtain ⟨hm, hm'⟩ := fold_minsi 2147483647#32 (fun j => if 0 < w j then lab j else 9#32) Finset.univ
    generalize hMg : Finset.univ.fold IntOp.maxsi 2147483648#32 (fun j => if 0 < w j then lab j else 4294967295#32) = M at *
    generalize hmg : Finset.univ.fold IntOp.minsi 2147483647#32 (fun j => if 0 < w j then lab j else 9#32) = m at *
    have hMj0 := hM j0 (Finset.mem_univ _)
    have hmj0 := hm j0 (Finset.mem_univ _)
    simp only [if_pos hj0] at hMj0 hmj0
    have hl0 := hlab j0
    obtain ⟨jM, hjM, hMe⟩ : ∃ j, 0 < w j ∧ M = lab j := by
      rcases hM' with h | ⟨j, -, h⟩
      · have : M.toInt = -2147483648 := by rw [h]; decide
        omega
      · by_cases hj : 0 < w j
        · exact ⟨j, hj, by simpa [hj] using h⟩
        · have : M.toInt = -1 := by rw [h, if_neg hj]; decide
          omega
    obtain ⟨jm, hjm, hme⟩ : ∃ j, 0 < w j ∧ m = lab j := by
      rcases hm' with h | ⟨j, -, h⟩
      · have : m.toInt = 2147483647 := by rw [h]; decide
        omega
      · by_cases hj : 0 < w j
        · exact ⟨j, hj, by simpa [hj] using h⟩
        · have : m.toInt = 9 := by rw [h, if_neg hj]; decide
          omega
    constructor
    · rintro ⟨-, hne⟩
      obtain ⟨a, ha, hoa⟩ := hocc jM hjM
      obtain ⟨b, hb, hob⟩ := hocc jm hjm
      refine ⟨a, b, hoa, hob, fun hab => hne ?_⟩
      rw [hMe, hme, ha, hb, hab]
    · rintro ⟨a, b, ⟨ja, hja, ha⟩, ⟨jb, hjb, hb⟩, hab⟩
      refine ⟨⟨j0, hj0⟩, fun heq => hab (hinj a b ?_)⟩
      have h1 := hM ja (Finset.mem_univ _)
      have h2 := hM jb (Finset.mem_univ _)
      have h3 := hm ja (Finset.mem_univ _)
      have h4 := hm jb (Finset.mem_univ _)
      simp only [if_pos hja, if_pos hjb] at h1 h2 h3 h4
      rw [← ha, ← hb]
      refine BitVec.eq_of_toInt_eq ?_
      rw [heq] at h1 h2
      omega
  · constructor
    · rintro ⟨h, -⟩; exact absurd h hex
    · rintro ⟨a, b, ⟨ja, hja, -⟩, -⟩; exact absurd ⟨ja, hja⟩ hex

/-- The boundary flag of a row is the reference's, for non-negative weights and labels in range. -/
theorem boundary_entry (x0 : FVec Ideal Cert.ReferenceIdeal.S12288x12288 .f32) (x2 : IVec Cert.ReferenceIdeal.S12288 32)
    (g : Vec Ideal Cert.KernelIdeal.S256x12288 .f32) (rhs : Vec Ideal Cert.KernelIdeal.S12288x256 .f32) (r : Fin 256)
    (i : Fin 12288) (hg : ∀ j : Fin 12288, g (ix2 r j) = x0 (ix2 i j))
    (hrhs : ∀ (j : Fin 12288) (l : Fin 8) (h : 128 + (l : ℕ) < 256),
      rhs (ix2 j ⟨128 + l, h⟩) = if x2 (ix1 j) = BitVec.ofNat 32 l then 1 else 0)
    (hpos : ∀ j : Fin 12288, 0 ≤ x0 (ix2 i j)) (hlab : ∀ j : Fin 12288, 0 ≤ (x2 (ix1 j)).toInt ∧ (x2 (ix1 j)).toInt < 8) :
    k1_pay11 (F := Ideal) (k1_pay8 g rhs) k1_pay9 k1_pay10 (ix3 0 r 0) = val_main_v59 (F := Ideal) x0 x2 (ix1 i) := by
  pointwise [k1_pay8, k1_pay9, k1_pay10, k1_pay11, k1_pay2]
  pointwise [val_main_cst_9, val_main_v49, val_main_v50, val_main_v51, val_main_c_10, val_main_call1_v0,
    val_main_call1_v1, val_main_call1_v2, val_main_v52, val_main_c_11, val_main_v53, val_main_c_12, val_main_call2_v0,
    val_main_call2_v1, val_main_call2_v2, val_main_v54, val_main_c_13, val_main_v55, val_main_c_14, val_main_v56,
    val_main_v57, val_main_v58, val_main_v59]
  have hsum : ∀ l : Fin 8, 0 < ∑ j, g (ix2 r j) * rhs (ix2 j ⟨128 + (l : ℕ), by omega⟩)
      ↔ Occurs (fun j => x0 (ix2 i j)) (fun j => x2 (ix1 j)) l := fun l => by
    rw [← label_sum_pos _ _ hpos]
    simp only [hg, hrhs]
  have hk := count_gt_one (Occurs (fun j => x0 (ix2 i j)) (fun j => x2 (ix1 j)))
  rw [← spread_iff _ _ hlab] at hk
  have hbit : ∀ b : BitVec 1, FloatOps.uitofp (F := Ideal) FTy.f32 b = if b = 1#1 then (1 : EReal) else 0 := fun b => by
    rcases (by decide : ∀ b : BitVec 1, b = 0#1 ∨ b = 1#1) b with rfl | rfl <;>
      simp only [show (0#1 = 1#1) = False by decide, if_true, if_false] <;>
      first
        | exact show ((((0#1).toNat : ℕ) : ℝ) : EReal) = 0 by simp
        | exact show ((((1#1).toNat : ℕ) : ℝ) : EReal) = 1 by simp
  have hand : ∀ u v : BitVec 1, IntOp.andi u v = 1#1 ↔ u = 1#1 ∧ v = 1#1 := by decide
  have hof : ∀ b : Bool, BitVec.ofBool b = 1#1 ↔ b = true := by decide
  have hne : ∀ u v : BitVec 32, IntOp.cmpi CmpIPredicate.ne u v = 1#1 ↔ u ≠ v := fun u v => by
    show BitVec.ofBool (u != v) = 1#1 ↔ _
    rw [hof]; simp
  rw [hbit]
  refine if_congr ?_ rfl rfl
  rw [hand, fold_ori_eq_one, hne]
  simp only [hof, Finset.mem_univ, true_and]
  refine Iff.trans ?_ (hk.trans (and_congr (exists_congr fun x => ⟨fun h => decide_eq_true h, fun h => of_decide_eq_true h⟩)
    Iff.rfl))
  refine Eq.to_iff ?_
  congr 1
  refine Finset.sum_congr rfl fun l _ => ?_
  by_cases ho : Occurs (fun j => x0 (ix2 i j)) (fun j => x2 (ix1 j)) l
  · rw [if_pos ((hsum l).mpr ho), if_pos ho]
  · rw [if_neg (fun h => ho ((hsum l).mp h)), if_neg ho]

end Cert.Own

end
-- ==== Proof.Bins.lean ====
module

public import proofs.«01_k».proof.Proof.Gen.KernelIdeal.Skeleton
public import proofs.«01_k».proof.Proof.Gen.ReferenceIdeal.Read
public import proofs.«01_k».proof.Proof.Scalars
public import proofs.«01_k».proof.Proof.Words

/-!
The histogram of a node's normalised features: the bin of a feature, and the mass of each bin, in the kernel and in the
reference.
-/

@[expose] public section

set_option maxRecDepth 16384

noncomputable section

namespace Cert.Own

open Idealize.ShloMosaic Cert.KernelIdeal.Gen Cert.ReferenceIdeal.Read

/-- The number of features of a row falling in one bin. -/
def binCount (f : Fin 128 → BitVec 32) (b : BitVec 32) : ℕ := ∑ x, if f x = b then 1 else 0

/-- The mass of one bin: its share of the features, and a small positive number. -/
def mass (f : Fin 128 → BitVec 32) (b : BitVec 32) : EReal :=
  Ideal.div (∑ x, if f x = b then 1 else 0) (FloatOps.ofBits (F := Ideal) .f32 0x43000000#32)
    + FloatOps.ofBits (F := Ideal) .f32 0x2EDBE6FF#32

/-- A selection of one or zero by an equality of words. -/
theorem select_eq (a b : BitVec 32) : Scalar.select (IntOp.cmpi .eq a b) (1 : EReal) 0 = if a = b then 1 else 0 := by
  by_cases h : a = b
  · subst h; simp [Scalar.select, IntOp.cmpi]
  · have hb : (a == b) = false := by simpa using h
    simp [Scalar.select, IntOp.cmpi, h, hb]

variable (w : IVec Cert.KernelIdeal.S256x128 32) (r : Fin 256)

/-- The mass of bin 0. -/
theorem mass0 (v9 : Vec Ideal Cert.KernelIdeal.S256x128 .f32) :
    k1_pay15 (F := Ideal) (k1_pay14 v9) (ix2 r 0) = mass (fun x => k1_pay12 (F := Ideal) v9 (ix2 r x)) 0#32 := by
  unfold mass
  pointwise [k1_pay15, k1_pay14]
  simp only [select_eq]

/-- The masses of bins 1 to 9. -/
theorem masses :
    k1_pay16 (F := Ideal) w (ix2 r 0) = mass (fun x => w (ix2 r x)) 1#32
      ∧ k1_pay17 (F := Ideal) w (ix2 r 0) = mass (fun x => w (ix2 r x)) 2#32
      ∧ k1_pay21 (F := Ideal) (k1_pay19 w) k1_pay20 (ix2 r 0) = mass (fun x => w (ix2 r x)) 3#32
      ∧ k1_pay22 (F := Ideal) w (ix2 r 0) = mass (fun x => w (ix2 r x)) 4#32
      ∧ k1_pay23 (F := Ideal) w (ix2 r 0) = mass (fun x => w (ix2 r x)) 5#32
      ∧ k1_pay24 (F := Ideal) w (ix2 r 0) = mass (fun x => w (ix2 r x)) 6#32
      ∧ k1_pay27 (F := Ideal) (k1_pay26 w) (Scalar.ofBits .f32 0x3F800000#32) (ix2 r 0) = mass (fun x => w (ix2 r x)) 7#32
      ∧ k1_pay28 (F := Ideal) w (ix2 r 0) = mass (fun x => w (ix2 r x)) 8#32
      ∧ k1_pay29 (F := Ideal) w (ix2 r 0) = mass (fun x => w (ix2 r x)) 9#32 := by
  refine ⟨?_, ?_, ?_, ?_, ?_, ?_, ?_, ?_, ?_⟩ <;>
    (unfold mass
     pointwise [k1_pay16, k1_pay17, k1_pay21, k1_pay19, k1_pay20, k1_pay22, k1_pay23, k1_pay24, k1_pay27, k1_pay26,
       k1_pay28, k1_pay29]
     simp only [select_eq])

/-- The smallest normalised feature of a node. -/
theorem low_entry (x1 : FVec Ideal Cert.ReferenceIdeal.S12288x128 .f32) (x3 x4 : FVec Ideal Cert.ReferenceIdeal.S128 .f32)
    (i : Fin 12288) :
    val_main_v60 (F := Ideal) x1 x3 x4 (ix1 i)
      = Finset.univ.fold min (Ideal.ofBits .f32 0x7F800000#32) fun x => val_main_v18 (F := Ideal) x1 x3 x4 (ix2 i x) := by
  simp only [val_main_cst_15, val_main_v60]
  generalize val_main_v18 (F := Ideal) x1 x3 x4 = e
  pointwise []

/-- The largest normalised feature of a node. -/
theorem high_entry (x1 : FVec Ideal Cert.ReferenceIdeal.S12288x128 .f32) (x3 x4 : FVec Ideal Cert.ReferenceIdeal.S128 .f32)
    (i : Fin 12288) :
    val_main_v62 (F := Ideal) x1 x3 x4 (ix1 i)
      = Finset.univ.fold max (Ideal.ofBits .f32 0xFF800000#32) fun x => val_main_v18 (F := Ideal) x1 x3 x4 (ix2 i x) := by
  simp only [val_main_cst_16, val_main_v62]
  generalize val_main_v18 (F := Ideal) x1 x3 x4 = e
  pointwise []

/-- The bin of a feature is the reference's. -/
theorem bin_entry (x1 : FVec Ideal Cert.ReferenceIdeal.S12288x128 .f32) (x3 x4 : FVec Ideal Cert.ReferenceIdeal.S128 .f32)
    (hb : Vec Ideal Cert.KernelIdeal.S256x128 .f32) (r : Fin 256) (i : Fin 12288)
    (hhb : ∀ c : Fin 128, hb (ix2 r c) = val_main_v18 (F := Ideal) x1 x3 x4 (ix2 i c)) (c : Fin 128) :
    k1_pay12 (F := Ideal) (k1_pay5 hb) (ix2 r c) = val_main_v77 (F := Ideal) x1 x3 x4 (ix2 i c) := by
  have h1 : idx_main_v61 (idx_main_v69 (ix2 i c)) = ix1 i := by
    funext a; match a with | ⟨0, _⟩ => rfl
  have h3 : idx_main_v63 (idx_main_v71 (ix2 i c)) = ix1 i := by
    funext a; match a with | ⟨0, _⟩ => rfl
  rw [val_main_v77_apply, val_main_call4_v2_apply, val_main_v76_apply, val_main_v75_apply, val_main_v74_apply,
    val_main_v72_apply, val_main_v71_apply, val_main_v70_apply, val_main_v69_apply, val_main_v73_apply,
    val_main_v68_apply, val_main_v67_apply, val_main_v66_apply, val_main_v64_apply, val_main_v63_apply,
    val_main_v61_apply, val_main_v65_apply, val_main_call3_v1_apply, val_main_call3_v0_apply,
    val_main_call4_v4_apply, val_main_call4_v1_apply, val_main_call4_v0_apply, val_main_call4_v3_apply,
    val_main_cst_17_apply, val_main_cst_18_apply, val_main_cst_19_apply, val_main_c_20_apply, val_main_c_21_apply,
    h1, h3, low_entry, high_entry]
  simp only [← hhb]
  pointwise [k1_pay12, k1_pay5]

end Cert.Own

end
-- ==== Proof.Het.lean ====
module

public import proofs.«01_k».proof.Proof.Bins

/-!
The entropy of a node's feature histogram: the kernel's ten subtractions are the reference's negated sum.
-/

@[expose] public section

set_option maxRecDepth 16384

noncomputable section

namespace Cert.Own

open Idealize.ShloMosaic Cert.KernelIdeal.Gen Cert.ReferenceIdeal.Read

/-- The number of features of a row falling in a bin, as an extended real. -/
theorem count_coe (f : Fin 128 → BitVec 32) (b : BitVec 32) :
    (∑ x, if f x = b then (1 : EReal) else 0) = ((binCount f b : ℝ) : EReal) := by
  unfold binCount
  induction (Finset.univ : Finset (Fin 128)) using Finset.induction_on with
  | empty => simp
  | insert a s ha ih =>
    rw [Finset.sum_insert ha, Finset.sum_insert ha, ih, Nat.cast_add, EReal.coe_add]
    split <;> simp

/-- Every feature falls in one of the ten bins, so the counts add to the number of features. -/
theorem sum_counts (f : Fin 128 → BitVec 32) (hf : ∀ x, ∃ b : Fin 10, f x = BitVec.ofNat 32 b) :
    ∑ b : Fin 10, binCount f (BitVec.ofNat 32 b) = 128 := by
  unfold binCount
  rw [Finset.sum_comm]
  have hinj : ∀ a b : Fin 10, BitVec.ofNat 32 a = BitVec.ofNat 32 b ↔ a = b := by decide
  have h1 : ∀ x, (∑ b : Fin 10, if f x = BitVec.ofNat 32 b then 1 else 0) = 1 := fun x => by
    obtain ⟨b, hb⟩ := hf x
    simp only [hb, hinj, Finset.sum_ite_eq, Finset.mem_univ, if_true]
  simp [h1]

/-- A count is at most the number of features. -/
theorem count_le (f : Fin 128 → BitVec 32) (b : BitVec 32) : binCount f b ≤ 128 := by
  unfold binCount
  calc (∑ x, if f x = b then 1 else 0) ≤ ∑ _x : Fin 128, 1 := Finset.sum_le_sum fun x _ => by split <;> omega
    _ = 128 := by simp

/-- A word clamped to the range of the bins is one of the ten bins. -/
theorem clamp_bin (v : BitVec 32) : ∃ b : Fin 10, IntOp.minsi 9#32 (IntOp.maxsi 0#32 v) = BitVec.ofNat 32 b := by
  generalize hu : IntOp.minsi 9#32 (IntOp.maxsi 0#32 v) = u
  have h : u.toInt = min 9 (max 0 v.toInt) := by
    rw [← hu, toInt_minsi, toInt_maxsi]; rfl
  have h1 : u.toInt = u.toNat := by
    have := u.isLt
    rw [BitVec.toInt_eq_toNat_cond] at h ⊢
    split <;> rename_i h2
    · rfl
    · rw [if_neg h2] at h; omega
  exact ⟨⟨u.toNat, by omega⟩, by simp⟩

/-- The ten subtractions of the terms of an entropy are the negated sum of them. -/
theorem subtractions (a : Fin 10 → ℝ) :
    (0 : EReal) - (a 0 : EReal) - (a 1 : EReal) - (a 2 : EReal) - (a 3 : EReal) - (a 4 : EReal) - (a 5 : EReal)
      - (a 6 : EReal) - (a 7 : EReal) - (a 8 : EReal) - (a 9 : EReal) = -∑ b, (a b : EReal) := by
  have h : (∑ b, (a b : EReal)) = ((∑ b, a b : ℝ) : EReal) := (map_sum (⟨⟨Real.toEReal, rfl⟩, EReal.coe_add⟩ : ℝ →+ EReal) a _).symm
  rw [h, show (0 : EReal) = ((0 : ℝ) : EReal) from rfl]
  simp only [← EReal.coe_sub, ← EReal.coe_neg]
  congr 1
  rw [Fin.sum_univ_castSucc, Fin.sum_univ_castSucc, Fin.sum_univ_eight]
  show _ = -(a 0 + a 1 + a 2 + a 3 + a 4 + a 5 + a 6 + a 7 + a 8 + a 9)
  ring

variable (x1 : FVec Ideal Cert.ReferenceIdeal.S12288x128 .f32) (x3 x4 : FVec Ideal Cert.ReferenceIdeal.S128 .f32)

/-- The reference's bin of a feature is one of the ten bins. -/
theorem ref_bin (i : Fin 12288) (c : Fin 128) : ∃ b : Fin 10, val_main_v77 (F := Ideal) x1 x3 x4 (ix2 i c) = BitVec.ofNat 32 b := by
  rw [val_main_v77_apply, val_main_call4_v2_apply, val_main_call4_v4_apply, val_main_call4_v1_apply,
    val_main_call4_v0_apply, val_main_call4_v3_apply, val_main_c_20_apply, val_main_c_21_apply]
  exact clamp_bin _

/-- The reference's count of a bin. -/
theorem ref_count (i : Fin 12288) (b : Fin 10) :
    val_main_v86 (F := Ideal) x1 x3 x4 (ix2 i b)
      = ((binCount (fun x => val_main_v77 (F := Ideal) x1 x3 x4 (ix2 i x)) (BitVec.ofNat 32 b) : ℝ) : EReal) := by
  simp only [val_main_v78, val_main_v79, val_main_v80, val_main_v81, val_main_v82, val_main_v83, val_main_v84,
    val_main_c_22, val_main_v85, val_main_v86]
  generalize val_main_v77 (F := Ideal) x1 x3 x4 = e
  pointwise []
  have hb : ∀ x, (BitVec.setWidth 32 (IntOp.cmpi CmpIPredicate.eq (e (ix2 i x)) (BitVec.ofNat 32 (b : ℕ)))).toNat
      = if e (ix2 i x) = BitVec.ofNat 32 (b : ℕ) then 1 else 0 := fun x => by
    show (BitVec.setWidth 32 (BitVec.ofBool (e (ix2 i x) == BitVec.ofNat 32 (b : ℕ)))).toNat = _
    by_cases h : e (ix2 i x) = BitVec.ofNat 32 (b : ℕ)
    · simp [h]
    · have h' : (e (ix2 i x) == BitVec.ofNat 32 (b : ℕ)) = false := by simpa using h
      simp [h, h']
  rw [fold_addi]
  simp only [hb]
  show (((BitVec.ofNat 32 (binCount (fun x => e (ix2 i x)) (BitVec.ofNat 32 b))).toInt : ℝ) : EReal) = _
  have hle := count_le (fun x => e (ix2 i x)) (BitVec.ofNat 32 b)
  generalize binCount (fun x => e (ix2 i x)) (BitVec.ofNat 32 b) = n at hle ⊢
  have : (BitVec.ofNat 32 n).toInt = n := by
    rw [BitVec.toInt_eq_toNat_cond, BitVec.toNat_ofNat, Nat.mod_eq_of_lt (by omega), if_pos (by omega)]
  rw [this, Int.cast_natCast]

/-- The number of features, printed as a constant. -/
theorem lit_features : Ideal.ofBits FTy.f32 0x43000000#32 = ((128 : ℝ) : EReal) := by
  simp [Ideal.ofBits, Ideal.ieee, -EReal.coe_mul]; norm_num

/-- The sum of the reals of a finite family is the real of the sum. -/
theorem coe_sum {ι : Type} (s : Finset ι) (a : ι → ℝ) : (∑ b ∈ s, (a b : EReal)) = ((∑ b ∈ s, a b : ℝ) : EReal) :=
  (map_sum (⟨⟨Real.toEReal, rfl⟩, EReal.coe_add⟩ : ℝ →+ EReal) a s).symm

/-- The mass of a bin is a positive real. -/
theorem mass_real (f : Fin 128 → BitVec 32) (b : BitVec 32) : ∃ q : ℝ, 0 < q ∧ mass f b = (q : EReal) := by
  obtain ⟨t, ht, hte⟩ := lit_tiny
  refine ⟨binCount f b / 128 + t, by positivity, ?_⟩
  unfold mass
  rw [count_coe]
  show Ideal.div _ (Ideal.ofBits FTy.f32 0x43000000#32) + Ideal.ofBits FTy.f32 0x2EDBE6FF#32 = _
  rw [lit_features, hte, Ideal.div_coe (by norm_num : (128 : ℝ) ≠ 0), ← EReal.coe_mul, ← EReal.coe_add, mul_one_div]

/-- One term of an entropy is a real, and so is the total. -/
theorem entropy_term (p : Fin 10 → EReal) (hp : ∀ b, ∃ q : ℝ, 0 < q ∧ p b = (q : EReal)) :
    ∃ a : Fin 10 → ℝ, ∀ b, Ideal.div (p b) (∑ b, p b) * Ideal.log (Ideal.div (p b) (∑ b, p b)) = (a b : EReal) := by
  choose q hq hpq using hp
  have hpos : 0 < ∑ b, q b := Finset.sum_pos (fun b _ => hq b) ⟨0, Finset.mem_univ _⟩
  refine ⟨fun b => q b / (∑ b, q b) * Real.log (q b / ∑ b, q b), fun b => ?_⟩
  simp only [hpq]
  rw [coe_sum, Ideal.div_coe hpos.ne', ← EReal.coe_mul, mul_one_div, Ideal.log_coe, if_neg (not_le.mpr (div_pos (hq b) hpos)), ← EReal.coe_mul]

/-- The reference's entropy. -/
theorem ref_entropy (i : Fin 12288) (p : Fin 10 → EReal)
    (hp : ∀ b, p b = mass (fun x => val_main_v77 (F := Ideal) x1 x3 x4 (ix2 i x)) (BitVec.ofNat 32 b)) :
    val_main_v100 (F := Ideal) x1 x3 x4 (ix1 i)
      = -∑ b, Ideal.div (p b) (∑ b, p b) * Ideal.log (Ideal.div (p b) (∑ b, p b)) := by
  simp only [val_main_cst_23, val_main_v87, val_main_v88, val_main_v89, val_main_v90, val_main_cst_24, val_main_v91,
    val_main_v92, val_main_cst_25, val_main_v93, val_main_v94, val_main_v95, val_main_v96, val_main_v97, val_main_v98,
    val_main_cst_26, val_main_v99, val_main_v100]
  have hc := ref_count x1 x3 x4 i
  generalize val_main_v86 (F := Ideal) x1 x3 x4 = e at hc
  pointwise []
  have hs : ∑ x, e (ix2 i x) = FloatOps.ofBits (F := Ideal) .f32 0x43000000#32 := by
    simp only [hc]
    rw [coe_sum, ← Nat.cast_sum, sum_counts _ (ref_bin x1 x3 x4 i)]
    exact lit_features.symm
  have hpe : ∀ x, Ideal.div (e (ix2 i x)) (∑ x, e (ix2 i x)) + Ideal.ofBits FTy.f32 786163455#32 = p x := fun x => by
    rw [hp, hs, mass, count_coe, hc]; rfl
  simp only [hpe]

/-- The histogram entropy of a row is the reference's. -/
theorem het_entry (hb : Vec Ideal Cert.KernelIdeal.S256x128 .f32) (r : Fin 256) (i : Fin 12288)
    (hhb : ∀ c : Fin 128, hb (ix2 r c) = val_main_v18 (F := Ideal) x1 x3 x4 (ix2 i c))
    (v9 : FVec Ideal Cert.KernelIdeal.S256x128 .f32) (h9 : v9 = k1_pay5 (F := Ideal) hb)
    (w : IVec Cert.KernelIdeal.S256x128 32) (hw : w = k1_pay12 (F := Ideal) v9)
    (v153 : FVec Ideal Cert.KernelIdeal.S256x1 .f32)
    (h153 : v153 = k1_pay25 (F := Ideal) w (k1_pay18 w k1_pay13 (k1_pay14 v9)) (k1_pay19 w) k1_pay20) :
    k1_pay1 (F := Ideal) (k1_pay17 w) (k1_pay21 (k1_pay19 w) k1_pay20) (k1_pay22 w) (k1_pay23 w) (k1_pay24 w)
        (k1_pay27 (k1_pay26 w) (Scalar.ofBits .f32 0x3F800000#32)) (k1_pay28 w) (k1_pay29 w)
        (k1_pay30 w v153 (k1_pay26 w) (Scalar.ofBits .f32 0x3F800000#32))
        (k1_pay31 w (k1_pay15 (k1_pay14 v9)) (k1_pay16 w) v153 (k1_pay26 w) (Scalar.ofBits .f32 0x3F800000#32))
        (ix3 0 r 0)
      = val_main_v100 (F := Ideal) x1 x3 x4 (ix1 i) := by
  have hbin : ∀ x, w (ix2 r x) = val_main_v77 (F := Ideal) x1 x3 x4 (ix2 i x) := fun x => by
    rw [hw, h9]; exact bin_entry x1 x3 x4 hb r i hhb x
  obtain ⟨p, hp⟩ : ∃ p : Fin 10 → EReal, ∀ b, p b = mass (fun x => w (ix2 r x)) (BitVec.ofNat 32 b) := ⟨_, fun _ => rfl⟩
  rw [ref_entropy x1 x3 x4 i p (fun b => by rw [hp]; exact congrArg (fun f => mass f (BitVec.ofNat 32 (b : ℕ))) (funext hbin))]
  obtain ⟨a, ha⟩ := entropy_term p fun b => by rw [hp]; exact mass_real _ _
  simp only [ha]
  rw [← subtractions]
  simp only [← ha]
  have m0 := mass0 r v9
  rw [← hw] at m0
  obtain ⟨m1, m2, m3, m4, m5, m6, m7, m8, m9⟩ := masses w r
  have hT : (∑ b, p b) = p 0 + p 1 + p 2 + p 3 + p 4 + p 5 + p 6 + p 7 + p 8 + p 9 := by
    rw [Fin.sum_univ_castSucc, Fin.sum_univ_castSucc, Fin.sum_univ_eight]; rfl
  rw [hT]
  rw [h153]
  clear h153 ha hbin h9 hw
  simp only [k1_pay31, k1_pay30, k1_pay25, k1_pay18]
  generalize k1_pay15 (F := Ideal) (k1_pay14 v9) = q0 at *
  generalize k1_pay16 (F := Ideal) w = q1 at *
  generalize k1_pay17 (F := Ideal) w = q2 at *
  generalize k1_pay21 (F := Ideal) (k1_pay19 w) k1_pay20 = q3 at *
  generalize k1_pay22 (F := Ideal) w = q4 at *
  generalize k1_pay23 (F := Ideal) w = q5 at *
  generalize k1_pay24 (F := Ideal) w = q6 at *
  generalize k1_pay27 (F := Ideal) (k1_pay26 w) (Scalar.ofBits .f32 0x3F800000#32) = q7 at *
  generalize k1_pay28 (F := Ideal) w = q8 at *
  generalize k1_pay29 (F := Ideal) w = q9 at *
  pointwise [k1_pay1, k1_pay13]
  have e : ∀ (k : Fin 10) (b : BitVec 32), BitVec.ofNat 32 k = b → mass (fun x => w (ix2 r x)) b = p k :=
    fun k b h => by rw [hp, h]
  rw [show q0 (ix2 r 0) = p 0 from m0.trans (e 0 _ (by decide)), show q1 (ix2 r 0) = p 1 from m1.trans (e 1 _ (by decide)),
    show q2 (ix2 r 0) = p 2 from m2.trans (e 2 _ (by decide)), show q3 (ix2 r 0) = p 3 from m3.trans (e 3 _ (by decide)),
    show q4 (ix2 r 0) = p 4 from m4.trans (e 4 _ (by decide)), show q5 (ix2 r 0) = p 5 from m5.trans (e 5 _ (by decide)),
    show q6 (ix2 r 0) = p 6 from m6.trans (e 6 _ (by decide)), show q7 (ix2 r 0) = p 7 from m7.trans (e 7 _ (by decide)),
    show q8 (ix2 r 0) = p 8 from m8.trans (e 8 _ (by decide)), show q9 (ix2 r 0) = p 9 from m9.trans (e 9 _ (by decide))]

end Cert.Own

end
-- ==== Proof.Flat.lean ====
module

public import proofs.«01_k».proof.Proof.Scalars

/-!
The 8 by 1536 arrangement of the 12288 nodes, row by row.
-/

@[expose] public section

set_option maxRecDepth 16384

noncomputable section

namespace Cert.Own

open Idealize.ShloMosaic

/-- Place `(a, b)` of the arrangement is node `1536 * a + b`. -/
def flat : Fin 8 × Fin 1536 ≃ Fin 12288 where
  toFun x := ⟨1536 * x.1 + x.2, by have := x.1.isLt; have := x.2.isLt; omega⟩
  invFun i := (⟨i / 1536, by have := i.isLt; omega⟩, ⟨i % 1536, Nat.mod_lt _ (by decide)⟩)
  left_inv x := by
    obtain ⟨a, b⟩ := x
    have := b.isLt
    refine Prod.ext (Fin.ext ?_) (Fin.ext ?_)
    · show (1536 * (a : ℕ) + b) / 1536 = a
      omega
    · show (1536 * (a : ℕ) + b) % 1536 = b
      omega
  right_inv i := Fin.ext (by show 1536 * ((i : ℕ) / 1536) + (i : ℕ) % 1536 = i; omega)

/-- The node at a row and a column of the arrangement. -/
theorem flat_val (a : Fin 8) (b : Fin 1536) : (flat (a, b) : ℕ) = 1536 * a + b := rfl

/-- A fold over the nodes is the fold over the arrangement. -/
theorem fold_flat {α : Type} (op : α → α → α) [Std.Commutative op] [Std.Associative op] (z : α) (f : Fin 12288 → α) :
    Finset.fold op z (fun x : Fin 8 × Fin 1536 => f (flat x)) Finset.univ = Finset.fold op z f Finset.univ := by
  have h := Finset.fold_map (op := op) (b := z) (f := f) (g := flat.toEmbedding) (s := Finset.univ)
  rw [Finset.map_univ_equiv] at h
  exact h.symm

/-- A sum over the nodes is the sum over the arrangement. -/
theorem sum_flat (f : Fin 12288 → EReal) : (∑ a : Fin 8, ∑ b : Fin 1536, f (flat (a, b))) = ∑ i, f i := by
  rw [← Fintype.sum_prod_type' (fun a b => f (flat (a, b)))]
  exact Equiv.sum_comp flat f

end Cert.Own

end
-- ==== Proof.Finalize.lean ====
module

public import proofs.«01_k».proof.Proof.Flat
public import proofs.«01_k».proof.Proof.Gen.KernelIdeal.Frame
public import proofs.«01_k».proof.Proof.Gen.ReferenceIdeal.Read
public import Idealize.ShloMosaic.Lib.Pointwise

/-!
The final scores: the kernel's combination of its four arrays is the reference's.
-/

@[expose] public section

set_option maxRecDepth 16384

noncomputable section

namespace Cert.Own

open Idealize.ShloMosaic Cert.KernelIdeal.Gen Cert.ReferenceIdeal.Read

variable (x0 : FVec Ideal Cert.ReferenceIdeal.S12288x12288 .f32) (x1 : FVec Ideal Cert.ReferenceIdeal.S12288x128 .f32)
  (x2 : IVec Cert.ReferenceIdeal.S12288 32) (x3 x4 x5 : FVec Ideal Cert.ReferenceIdeal.S128 .f32)
  (x6 : FVec Ideal Cert.ReferenceIdeal.S1 .f32)

/-- The reference's combined smoothness score of a node: its first term plus the softmax of its second. -/
theorem ref_smooth (i : Fin 12288) (q : Fin 12288 → EReal)
    (hq : ∀ k, val_main_v37 (F := Ideal) x0 x1 x3 x4 x5 x6 (ix1 k) = q k) :
    val_main_v48 (F := Ideal) x0 x1 x3 x4 x5 x6 (ix1 i)
      = val_main_v33 (F := Ideal) x0 x1 x3 x4 (ix1 i)
        + Ideal.div (Ideal.exp (q i - Finset.fold max ⊥ q Finset.univ))
            (∑ k, Ideal.exp (q k - Finset.fold max ⊥ q Finset.univ)) := by
  simp only [val_main_v48, val_main_v47, val_main_v46, val_main_v45, val_main_v44, val_main_cst_8, val_main_v43, val_main_v42,
    val_main_v41, val_main_v40, val_main_v39, val_main_cst_7, val_main_v38, val_main_cst_6]
  generalize val_main_v33 (F := Ideal) x0 x1 x3 x4 = p
  generalize val_main_v37 (F := Ideal) x0 x1 x3 x4 x5 x6 = v at hq
  pointwise []
  simp only [hq, lit_bot, max_eq_right (bot_le : (⊥ : EReal) ≤ _)]

/-- The reference's least and greatest heterogeneity, over the nodes. -/
theorem ref_range (j : Cert.ReferenceIdeal.S_.Idx) :
    val_main_v101 (F := Ideal) x1 x3 x4 j
        = Finset.fold min ⊤ (fun k => val_main_v100 (F := Ideal) x1 x3 x4 (ix1 k)) Finset.univ
      ∧ val_main_v105 (F := Ideal) x1 x3 x4 j
        = Finset.fold min ⊤ (fun k => val_main_v100 (F := Ideal) x1 x3 x4 (ix1 k)) Finset.univ
      ∧ val_main_v104 (F := Ideal) x1 x3 x4 j
        = Finset.fold max ⊥ (fun k => val_main_v100 (F := Ideal) x1 x3 x4 (ix1 k)) Finset.univ := by
  unfold val_main_v101 val_main_v105 val_main_v104
  generalize val_main_v100 (F := Ideal) x1 x3 x4 = e
  rw [← lit_top, ← lit_bot]
  refine ⟨?_, ?_, ?_⟩
  · pointwise [val_main_cst_27]
  · pointwise [val_main_cst_29]
  · pointwise [val_main_cst_28]

/-- The reference's heterogeneity of a node, scaled to its range. -/
theorem ref_scaled (i : Fin 12288) (e : Fin 12288 → EReal) (he : ∀ k, val_main_v100 (F := Ideal) x1 x3 x4 (ix1 k) = e k) :
    val_main_v109 (F := Ideal) x1 x3 x4 (ix1 i)
      = Ideal.div (e i - Finset.fold min ⊤ e Finset.univ)
          (Finset.fold max ⊥ e Finset.univ - Finset.fold min ⊤ e Finset.univ + Ideal.ofBits .f32 786163455#32) := by
  rw [val_main_v109_apply, val_main_v103_apply, val_main_v102_apply, val_main_v108_apply, val_main_v107_apply,
    val_main_v106_apply, val_main_cst_30_apply, (ref_range x1 x3 x4 _).1, (ref_range x1 x3 x4 _).2.1,
    (ref_range x1 x3 x4 _).2.2]
  simp only [he]
  rfl

/-- The pattern of one. -/
theorem lit_one : Ideal.ofBits .f32 1065353216#32 = 1 := by
  have h : Ideal.ofBits .f32 1065353216#32 = ((1 : ℝ) : EReal) := by
    simp [Ideal.ofBits, Ideal.ieee, -EReal.coe_mul]; norm_num
  rw [h, EReal.coe_one]

/-- The reference's score of a node. -/
theorem ref_score (i : Fin 12288) :
    val_main_v121 (F := Ideal) x0 x1 x2 x3 x4 x5 x6 (ix1 i)
      = Ideal.logistic (val_main_v48 (F := Ideal) x0 x1 x3 x4 x5 x6 (ix1 i)
          * (Ideal.ofBits .f32 1058642330#32 * val_main_v59 (F := Ideal) x0 x2 (ix1 i)
            + Ideal.ofBits .f32 1053609165#32 * val_main_v109 (F := Ideal) x1 x3 x4 (ix1 i))) := by
  rw [val_main_v121_apply, val_main_v120_apply, val_main_cst_34_apply, val_main_v119_apply, val_main_v118_apply,
    val_main_cst_33_apply, val_main_v117_apply, val_main_v116_apply, val_main_v115_apply, val_main_v114_apply,
    val_main_v113_apply, val_main_v112_apply, val_main_cst_32_apply, val_main_v111_apply, val_main_v110_apply,
    val_main_cst_31_apply]
  generalize val_main_v48 (F := Ideal) x0 x1 x3 x4 x5 x6 (ix1 i) = p
  generalize val_main_v59 (F := Ideal) x0 x2 (ix1 i) = q
  generalize val_main_v109 (F := Ideal) x1 x3 x4 (ix1 i) = r
  show Ideal.div (Ideal.ofBits .f32 1065353216#32) (Ideal.ofBits .f32 1065353216#32 + Ideal.exp (-(p * _))) = _
  rw [lit_one]
  rfl

/-- The kernel's score of a node is the reference's, when its four arrays hold the reference's four terms, node by node
    in the arrangement. -/
theorem finalize_entry (z3 het bnd z12 : FVec Ideal Cert.KernelIdeal.S8x1536 .f32)
    (h3 : ∀ a b, z3 (ix2 a b) = val_main_v37 (F := Ideal) x0 x1 x3 x4 x5 x6 (ix1 (flat (a, b))))
    (he : ∀ a b, het (ix2 a b) = val_main_v100 (F := Ideal) x1 x3 x4 (ix1 (flat (a, b))))
    (hb : ∀ a b, bnd (ix2 a b) = val_main_v59 (F := Ideal) x0 x2 (ix1 (flat (a, b))))
    (h12 : ∀ a b, z12 (ix2 a b) = val_main_v33 (F := Ideal) x0 x1 x3 x4 (ix1 (flat (a, b)))) (a : Fin 8) (b : Fin 1536) :
    k2_pay5 (F := Ideal) z3 het bnd z12 (ix2 a b)
      = val_main_v121 (F := Ideal) x0 x1 x2 x3 x4 x5 x6 (ix1 (flat (a, b))) := by
  obtain ⟨q, hq⟩ : ∃ q : Fin 12288 → EReal, ∀ k, val_main_v37 (F := Ideal) x0 x1 x3 x4 x5 x6 (ix1 k) = q k := ⟨_, fun _ => rfl⟩
  obtain ⟨e, hee⟩ : ∃ e : Fin 12288 → EReal, ∀ k, val_main_v100 (F := Ideal) x1 x3 x4 (ix1 k) = e k := ⟨_, fun _ => rfl⟩
  rw [ref_score, ref_smooth x0 x1 x3 x4 x5 x6 _ q hq, ref_scaled x1 x3 x4 _ e hee, ← h12, ← hb]
  simp only [hq] at h3
  simp only [hee] at he
  pointwise [k2_pay5]
  simp only [h3, he, lit_top, lit_bot, Prod.mk.eta]
  rw [fold_flat max ⊥ q, fold_flat min ⊤ e, fold_flat max ⊥ e,
    sum_flat fun k => Ideal.exp (q k - Finset.fold max ⊥ q Finset.univ)]

/-- A score is above the mark that the selection writes over taken ones. -/
theorem score_above (x : EReal) : -1 < Ideal.logistic x := by
  have h1 : (-1 : EReal) < 0 := by
    rw [show (-1 : EReal) = ((-1 : ℝ) : EReal) from rfl, ← EReal.coe_zero]
    exact EReal.coe_lt_coe_iff.mpr (by norm_num)
  refine lt_of_lt_of_le h1 ?_
  induction x using EReal.rec with
  | bot => simp
  | top => simp
  | coe r =>
    rw [Ideal.logistic_coe]
    exact EReal.coe_nonneg.mpr (inv_nonneg.mpr (by positivity))

end Cert.Own

end
-- ==== Proof.TopK.lean ====
module

public import Idealize.ShloMosaic.Lib.SortPrefix
public import Idealize.ShloMosaic.PureOps.Ideal

/-!
Picking the greatest remaining score over and over is a stable sort's prefix.
-/

@[expose] public section

noncomputable section

namespace Cert.Own

open Idealize.ShloMosaic

/-- Inserting an element does not depend on the comparator beyond its answers against that element. -/
theorem insertBefore_congr {ι : Type} (B C : ι → ι → Bool) (a : ι) (l : List ι) (h : ∀ b ∈ l, B b a = C b a) :
    insertBefore B a l = insertBefore C a l := by
  induction l with
  | nil => rfl
  | cons b l ih =>
    unfold insertBefore
    rw [h b (List.mem_cons_self ..), ih fun x hx => h x (List.mem_cons_of_mem _ hx)]

/-- Two comparators that agree whenever the second element stands earlier in the list sort the list alike. -/
theorem stableSort_congr {ι : Type} (B C : ι → ι → Bool) (l : List ι) (h : l.Pairwise fun a b => B b a = C b a) :
    stableSort B l = stableSort C l := by
  induction l with
  | nil => rfl
  | cons a l ih =>
    rw [List.pairwise_cons] at h
    unfold stableSort
    rw [ih h.2]
    exact insertBefore_congr B C a _ fun b hb => h.1 b ((perm_stableSort C l).mem_iff.mp hb)

/-- Sorting positions by a greater key is sorting them by a greater key and then by the smaller position: the sort is
    stable. -/
theorem sortedFrom_by_position {n : ℕ} (key : Fin n → EReal) (k : Fin n) :
    sortedFrom (fun a b => decide (key b < key a)) k
      = sortedFrom (fun a b => decide (key b < key a) || (decide (key a = key b) && decide (a < b))) k := by
  have e : stableSort (fun a b => decide (key b < key a)) (List.finRange n)
      = stableSort (fun a b => decide (key b < key a) || (decide (key a = key b) && decide (a < b))) (List.finRange n) := by
    refine stableSort_congr _ _ _ ((List.pairwise_lt_finRange n).imp fun {a b} hab => ?_)
    rw [decide_eq_false (not_lt.mpr hab.le), Bool.and_false, Bool.or_false]
  unfold sortedFrom sortPositions
  simp only [List.get_eq_getElem, e, Fin.val_cast]
  rfl

/-- Trips that each take the first position of the greatest score and then put `-1` there, started from scores all above
    `-1`, take the positions of the stable sort by greater score, in its order. -/
theorem picks_eq_sortedFrom {n : ℕ} (key : Fin n → EReal) (hkey : ∀ i, -1 < key i) {k : ℕ} (hk : k ≤ n)
    (p : ℕ → Fin n) (S : ℕ → Fin n → EReal) (h0 : S 0 = key)
    (hS : ∀ t < k, ∀ q, S (t + 1) q = if q = p t then -1 else S t q)
    (hmax : ∀ t < k, ∀ q, S t q ≤ S t (p t)) (hfirst : ∀ t < k, ∀ q, S t q = S t (p t) → p t ≤ q) (i : Fin k) :
    sortedFrom (fun a b => decide (key b < key a)) (i.castLE hk) = p i := by
  -- a position not taken so far keeps its score, one taken holds `-1`
  have hkeep : ∀ t ≤ k, ∀ q, (∀ j < t, p j ≠ q) → S t q = key q := by
    intro t
    induction t with
    | zero => intro _ q _; rw [h0]
    | succ t ih =>
      intro ht q hq
      rw [hS t (by omega), if_neg (fun e => hq t (by omega) e.symm), ih (by omega) q fun j hj => hq j (by omega)]
  have htaken : ∀ t ≤ k, ∀ j < t, S t (p j) = -1 := by
    intro t
    induction t with
    | zero => intro _ j hj; omega
    | succ t ih =>
      intro ht j hj
      rw [hS t (by omega)]
      split
      · rfl
      · exact ih (by omega) j (by rcases Nat.lt_succ_iff_lt_or_eq.mp hj with h | h; exact h; subst h; contradiction)
  -- so a trip takes a new position
  have hnew : ∀ t < k, ∀ j < t, p j ≠ p t := by
    intro t ht j hj e
    obtain ⟨q, hq⟩ : ∃ q, q ∉ (Finset.range t).image p := by
      by_contra hall
      push Not at hall
      have hc : Fintype.card (Fin n) ≤ ((Finset.range t).image p).card := by
        rw [← Finset.card_univ]; exact Finset.card_le_card fun q _ => hall q
      have := (Finset.card_image_le (s := Finset.range t) (f := p)); rw [Finset.card_range] at this
      rw [Fintype.card_fin] at hc; omega
    have hq' : ∀ j < t, p j ≠ q := fun j hj e => hq (Finset.mem_image.mpr ⟨j, Finset.mem_range.mpr hj, e⟩)
    have h1 := hmax t ht q
    rw [hkeep t ht.le q hq', ← e, htaken t ht.le j hj] at h1
    exact absurd (hkey q) (not_lt.mpr h1)
  -- and no position left is before it
  have hbest : ∀ t < k, ∀ q, (∀ j < t, p j ≠ q) →
      (decide (key (p t) < key q) || (decide (key q = key (p t)) && decide (q < p t))) = false := by
    intro t ht q hq
    have e1 := hkeep t ht.le q hq
    have e2 := hkeep t ht.le (p t) (hnew t ht)
    have h1 := hmax t ht q
    have h2 := hfirst t ht q
    rw [e1, e2] at h1 h2
    rw [decide_eq_false (not_lt.mpr h1), Bool.false_or]
    by_cases he : key q = key (p t)
    · rw [decide_eq_false (not_lt.mpr (h2 he)), Bool.and_false]
    · rw [decide_eq_false he, Bool.false_and]
  rw [sortedFrom_by_position]
  have hB := StrictTotalBefore.of_key_then_position (fun a b : EReal => decide (b < a)) key (fun a => by simp)
    (fun a b c h1 h2 => by simp only [decide_eq_true_eq] at *; exact lt_trans h2 h1)
    (fun a b => by
      simp only [decide_eq_true_eq]
      rcases lt_trichotomy a b with h | h | h
      · exact Or.inr (Or.inr h)
      · exact Or.inr (Or.inl h)
      · exact Or.inl h)
  refine hB.sortedFrom_eq_of_prefix hk (fun i : Fin k => p i) (fun a b h => ?_) (fun a b hab => ?_) (fun a q hq => ?_) i
  · rcases lt_trichotomy a b with hab | hab | hab
    · exact absurd h (hnew b b.isLt a hab)
    · exact hab
    · exact absurd h.symm (hnew a a.isLt b hab)
  · refine hbest a a.isLt (p b) fun j hj => hnew b b.isLt j (lt_trans hj hab)
  · exact hbest a a.isLt q fun j hj => hq ⟨j, lt_trans hj a.isLt⟩

end Cert.Own

end
-- ==== Proof.Trips.lean ====
module

public import proofs.«01_k».proof.Proof.Flat
public import proofs.«01_k».proof.Proof.TopK
public import proofs.«01_k».proof.Proof.Words
public import proofs.«01_k».proof.Proof.Gen.KernelIdeal.Frame
public import Idealize.ShloMosaic.Lib.Pointwise

/-!
The selection loop of the third kernel: its 512 trips leave the positions of the 512 greatest scores.
-/

@[expose] public section

set_option maxRecDepth 16384

noncomputable section

namespace Cert.Own

open Idealize.ShloMosaic Cert.KernelIdeal Cert.KernelIdeal.Gen

/-- The scores of an arrangement, node by node. -/
def scores (v : FVec Ideal Cert.KernelIdeal.S8x1536 .f32) (q : Fin 12288) : EReal :=
  v (ix2 (flat.symm q).1 (flat.symm q).2)

/-- The score of the node at a row and a column of the arrangement. -/
theorem scores_flat (v : FVec Ideal Cert.KernelIdeal.S8x1536 .f32) (a : Fin 8) (b : Fin 1536) :
    scores v (flat (a, b)) = v (ix2 a b) := by
  unfold scores; rw [Equiv.symm_apply_apply]

/-- A fold of a step over the trips of a loop is the last of any sequence that the step leads from one to the next. -/
theorem fold_trips {σ : Type} (n : ℕ) (g : Fin n → σ → σ) (st : ℕ → σ) (h : ∀ k : Fin n, st (k + 1) = g k (st k)) :
    (List.finRange n).foldl (fun acc k => g k acc) (st 0) = st n := by
  induction n with
  | zero => rfl
  | succ n ih =>
    rw [List.finRange_succ_last, List.foldl_append, List.foldl_map]
    rw [ih (fun k acc => g k.castSucc acc) fun k => h k.castSucc]
    exact (h (Fin.last n)).symm

/-- Such a sequence exists from any start. -/
theorem exists_trips {σ : Type} (n : ℕ) (g : Fin n → σ → σ) (init : σ) :
    ∃ st : ℕ → σ, st 0 = init ∧ ∀ k : Fin n, st (k + 1) = g k (st k) :=
  ⟨fun t => Nat.rec init (fun t s => if h : t < n then g ⟨t, h⟩ s else s) t, rfl, fun k => dif_pos k.isLt⟩

/-- The greatest of a nonempty family of extended reals bounds the family and is one of it. -/
theorem fold_max_attained {ι : Type} [Fintype ι] [Nonempty ι] (f : ι → EReal) :
    (∀ x, f x ≤ Finset.fold max ⊥ f Finset.univ) ∧ ∃ x, f x = Finset.fold max ⊥ f Finset.univ := by
  have hle : ∀ x, f x ≤ Finset.fold max ⊥ f Finset.univ := fun x =>
    (Finset.le_fold_max _).mpr (Or.inr ⟨x, Finset.mem_univ _, le_rfl⟩)
  refine ⟨hle, ?_⟩
  rcases (Finset.le_fold_max (Finset.fold max ⊥ f Finset.univ)).mp le_rfl with h | ⟨x, _, h⟩
  · obtain ⟨x⟩ := (inferInstance : Nonempty ι)
    exact ⟨x, le_antisymm (hle x) (h.trans bot_le)⟩
  · exact ⟨x, le_antisymm (hle x) h⟩

/-- The word a trip selects: the smallest number of a node whose score is the greatest. -/
def pickWord (v : FVec Ideal Cert.KernelIdeal.S8x1536 .f32) : BitVec 32 :=
  Finset.fold IntOp.minsi 2147483647#32 (fun x : Fin 8 × Fin 1536 =>
    if v (ix2 x.1 x.2) = Finset.fold max ⊥ (fun x : Fin 8 × Fin 1536 => v (ix2 x.1 x.2)) Finset.univ
      then BitVec.ofNat 32 (flat x) else 12288#32) Finset.univ

/-- A node number as a 32-bit word reads back as itself. -/
theorem toInt_node (q : Fin 12288) : (BitVec.ofNat 32 q).toInt = q := by
  have := q.isLt
  rw [BitVec.toInt_eq_toNat_bmod, BitVec.toNat_ofNat, Int.bmod_def]
  omega

/-- That word is the number of a node whose score none exceeds and that is the first of those that equal it. -/
theorem pickWord_spec (v : FVec Ideal Cert.KernelIdeal.S8x1536 .f32) :
    ∃ p : Fin 12288, pickWord v = BitVec.ofNat 32 p ∧ (∀ q, scores v q ≤ scores v p)
      ∧ ∀ q, scores v q = scores v p → p ≤ q := by
  obtain ⟨hle, x₀, hx₀⟩ := fold_max_attained fun x : Fin 8 × Fin 1536 => v (ix2 x.1 x.2)
  obtain ⟨hb, ha⟩ := fold_minsi 2147483647#32 (fun x : Fin 8 × Fin 1536 =>
    if v (ix2 x.1 x.2) = Finset.fold max ⊥ (fun x : Fin 8 × Fin 1536 => v (ix2 x.1 x.2)) Finset.univ
      then BitVec.ofNat 32 (flat x) else 12288#32) Finset.univ
  change ∀ x ∈ _, (pickWord v).toInt ≤ _ at hb
  change pickWord v = _ ∨ ∃ x ∈ _, pickWord v = _ at ha
  have h0 := hb x₀ (Finset.mem_univ _)
  rw [if_pos hx₀, toInt_node] at h0
  have hlt := (flat x₀).isLt
  rcases ha with ha | ⟨x, _, ha⟩
  · rw [ha] at h0
    have : (2147483647#32 : BitVec 32).toInt = 2147483647 := by decide
    omega
  · by_cases hx : v (ix2 x.1 x.2) = Finset.fold max ⊥ (fun x : Fin 8 × Fin 1536 => v (ix2 x.1 x.2)) Finset.univ
    · rw [if_pos hx] at ha
      have hp : scores v (flat x) = Finset.fold max ⊥ (fun x : Fin 8 × Fin 1536 => v (ix2 x.1 x.2)) Finset.univ :=
        (scores_flat v x.1 x.2).trans hx
      refine ⟨flat x, ha, fun q => ?_, fun q hq => ?_⟩
      · rw [hp]; exact hle (flat.symm q)
      · rw [hp] at hq
        have h1 := hb (flat.symm q) (Finset.mem_univ _)
        rw [if_pos (show v (ix2 (flat.symm q).1 (flat.symm q).2) = _ from hq), ha, toInt_node, toInt_node, Equiv.apply_symm_apply] at h1
        exact Fin.le_def.mpr (by omega)
    · rw [if_neg hx] at ha
      rw [ha] at h0
      have : (12288#32 : BitVec 32).toInt = 12288 := by decide
      omega

/-- The word of a node's number, as the kernel computes it from its row and column. -/
theorem node_word (a : Fin 8) (b : Fin 1536) :
    IntOp.addi (IntOp.muli (BitVec.ofNat 32 a) 1536#32) (BitVec.ofNat 32 b) = BitVec.ofNat 32 (flat (a, b)) := by
  show BitVec.ofNat 32 a * 1536#32 + BitVec.ofNat 32 b = _
  rw [flat_val, BitVec.ofNat_add, BitVec.ofNat_mul, BitVec.mul_comm]

/-- A choice by the equality of two words. -/
theorem pick_select {α : Type} (a b : BitVec 32) (x y : α) :
    Scalar.select (IntOp.cmpi .eq a b) x y = if a = b then x else y := by
  by_cases h : a = b
  · subst h; simp [IntOp.cmpi, Scalar.select]
  · have hb : (a == b) = false := beq_false_of_ne h
    rw [if_neg h]
    simp [IntOp.cmpi, Scalar.select, hb]

/-- A trip's new scores: `-1` at the selected node, the others kept. -/
theorem trip_scores (v : FVec Ideal Cert.KernelIdeal.S8x1536 .f32) (p : Fin 12288) (hp : pickWord v = BitVec.ofNat 32 p)
    (q : Fin 12288) :
    scores (k2_pay4 (F := Ideal) (iota Kind.tc S8x1536 32 [0] iota_S8x1536_d0_w32) (1536#32) v) q
      = if q = p then -1 else scores v q := by
  obtain ⟨⟨a, b⟩, rfl⟩ := flat.surjective q
  rw [scores_flat, scores_flat]
  pointwise [k2_pay4, k2_pay1]
  simp only [node_word]
  rw [show Finset.fold IntOp.minsi _ _ _ = pickWord v from by unfold pickWord; rw [← lit_bot], hp]
  rw [pick_select, lit_neg_one]
  by_cases h : flat (a, b) = p
  · rw [if_pos h, h, if_pos rfl]; rfl
  · have hne : ¬ BitVec.ofNat 32 (flat (a, b)) = BitVec.ofNat 32 p := fun e => h (Fin.ext (by
      have e2 := congrArg BitVec.toInt e
      rw [toInt_node, toInt_node] at e2
      omega))
    rw [if_neg h, if_neg hne]

/-- A trip's new list: the selected node's number at the trip's place, the others kept. -/
theorem trip_list (v : FVec Ideal Cert.KernelIdeal.S8x1536 .f32) (w : IVec Cert.KernelIdeal.S1x512 32)
    (t : Fin k2_t1_loop.trips) (r : Fin 512) :
    k2_pay3 (F := Ideal) (iota Kind.tc S8x1536 32 [0] iota_S8x1536_d0_w32) (1536#32) t v w (ix2 0 r)
      = if (r : ℕ) = t then pickWord v else w (ix2 0 r) := by
  pointwise [k2_pay3, k2_pay1]
  simp only [node_word]
  rw [show Finset.fold IntOp.minsi _ _ _ = pickWord v from by unfold pickWord; rw [← lit_bot]]
  have ht : (t : ℕ) < 512 := t.isLt
  have hr := r.isLt
  have hiv : Scf.iv 0#32 1#32 (t : ℕ) = BitVec.ofNat 32 t := by
    show 0#32 + BitVec.ofNat 32 t * 1#32 = _
    rw [BitVec.mul_one, BitVec.zero_add]
  rw [hiv, pick_select]
  by_cases h : (r : ℕ) = t
  · rw [if_pos h, h, if_pos rfl]
  · have hne : ¬ BitVec.ofNat 32 r = BitVec.ofNat 32 t := fun e => h (by
      have e2 := congrArg BitVec.toNat e
      rw [BitVec.toNat_ofNat, BitVec.toNat_ofNat] at e2
      omega)
    rw [if_neg h, if_neg hne]

/-- The loop's list after its 512 trips, from scores all above `-1`: place `r` holds the number of the node that comes
    `r`-th when the nodes are sorted, stably, by greater score. -/
theorem loop_list (v : FVec Ideal Cert.KernelIdeal.S8x1536 .f32) (hv : ∀ q, -1 < scores v q)
    (w : IVec Cert.KernelIdeal.S1x512 32) (r : Fin 512) :
    (Scf.fold
          (fun (t : Fin k2_t1_loop.trips) s =>
            (k2_pay4 (F := Ideal) (iota Kind.tc S8x1536 32 [0] iota_S8x1536_d0_w32) (1536#32) s.1,
              k2_pay3 (F := Ideal) (iota Kind.tc S8x1536 32 [0] iota_S8x1536_d0_w32) (1536#32) t s.1 s.2))
          (v, w)).2 (ix2 0 r)
      = BitVec.ofNat 32 (sortedFrom (fun a b => decide (scores v b < scores v a)) (r.castLE (by decide : 512 ≤ 12288))) := by
  choose pick hword hmax hfirst using pickWord_spec
  obtain ⟨g, hg⟩ : ∃ g : Fin k2_t1_loop.trips → FVec Ideal S8x1536 .f32 × IVec S1x512 32 → FVec Ideal S8x1536 .f32 × IVec S1x512 32,
      g = fun t s => (k2_pay4 (F := Ideal) (iota Kind.tc S8x1536 32 [0] iota_S8x1536_d0_w32) (1536#32) s.1,
              k2_pay3 (F := Ideal) (iota Kind.tc S8x1536 32 [0] iota_S8x1536_d0_w32) (1536#32) t s.1 s.2) := ⟨_, rfl⟩
  have hn : k2_t1_loop.trips = 512 := by decide
  obtain ⟨st, h0, hst⟩ := exists_trips _ g (v, w)
  have hfold := fold_trips _ g st hst
  rw [h0] at hfold
  rw [← hg, Scf.fold_eq, hfold, hn]
  have hlt : ∀ t, t < 512 → t < k2_t1_loop.trips := fun t ht => by rw [hn]; exact ht
  have hfst : ∀ t, t < 512 → (st (t + 1)).1
      = k2_pay4 (F := Ideal) (iota Kind.tc S8x1536 32 [0] iota_S8x1536_d0_w32) (1536#32) (st t).1 := fun t ht =>
    (congrArg Prod.fst (hst ⟨t, hlt t ht⟩)).trans (by rw [hg])
  have hsnd : ∀ t, t < 512 → (st (t + 1)).2 (ix2 0 r) = if (r : ℕ) = t then pickWord (st t).1 else (st t).2 (ix2 0 r) :=
    fun t ht => (congrArg (fun s => s.2 (ix2 0 r)) (hst ⟨t, hlt t ht⟩)).trans
      (by rw [hg]; exact trip_list (st t).1 (st t).2 ⟨t, hlt t ht⟩ r)
  have hstep : ∀ t < 512, ∀ q, scores (st (t + 1)).1 q = if q = pick (st t).1 then -1 else scores (st t).1 q := by
    intro t ht q
    rw [hfst t ht]
    exact trip_scores _ _ (hword _) q
  have hlist : ∀ t ≤ 512, (r : ℕ) < t → (st t).2 (ix2 0 r) = BitVec.ofNat 32 (pick (st r).1) := by
    intro t
    induction t with
    | zero => intro _ h; omega
    | succ t ih =>
      intro ht hr
      rw [hsnd t (by omega)]
      by_cases h : (r : ℕ) = t
      · rw [if_pos h, ← h]; exact hword _
      · rw [if_neg h]; exact ih (by omega) (by omega)
  rw [hlist 512 le_rfl r.isLt]
  rw [picks_eq_sortedFrom (scores v) hv (by decide : 512 ≤ 12288) (fun t => pick (st t).1) (fun t => scores (st t).1) (by rw [h0])
    hstep (fun t _ => hmax _) (fun t _ => hfirst _) r]

end Cert.Own

end
-- ==== Proof.HostOps.lean ====
module

public import proofs.«01_k».proof.Proof.Gen.KernelIdeal.Frame
public import Idealize.ShloMosaic.Lib.StableHlo.ReadAt
public import Idealize.ShloMosaic.Lib.Pointwise
public import Idealize.ShloMosaic.PureOps.Ideal

/-!
The operations between the regions, read at an index: which element of which earlier array each of their results holds.
-/

@[expose] public section

set_option maxRecDepth 16384

noncomputable section

namespace Cert.KernelIdeal.Gen

open Idealize.ShloMosaic Idealize.ShloMosaic.TcCoe Idealize.ShloMosaic.StableHlo
open Idealize.SL.Sem

variable (V : Valuation τ sig (Elt Ideal))

/-- The scale as a row holds the scale argument. -/
theorem host0_v0 (c : Fin 128) : StableHlo.after hostOps0 V (Proc.devRef .tc main_v0) (ix2 0 c : S1x128.Idx)
    = V (Proc.devRef .tc main_arg3) (ix1 c : S128.Idx) := by
  after_reads_at

/-- The shift as a row holds the shift argument. -/
theorem host0_v1 (c : Fin 128) : StableHlo.after hostOps0 V (Proc.devRef .tc main_v1) (ix2 0 c : S1x128.Idx)
    = V (Proc.devRef .tc main_arg4) (ix1 c : S128.Idx) := by
  after_reads_at

/-- The head weights as a row hold the head-weight argument. -/
theorem host1_v14 (c : Fin 128) : StableHlo.after hostOps1 V (Proc.devRef .tc main_v14) (ix2 0 c : S1x128.Idx)
    = V (Proc.devRef .tc main_arg5) (ix1 c : S128.Idx) := by
  after_reads_at

/-- The first 128 columns of the right factor are the normalised features. -/
theorem host1_v13_h (j : Fin 12288) (c : Fin 128) (h : (c : ℕ) < 256) :
    StableHlo.after hostOps1 V (Proc.devRef .tc main_v13) (ix2 j ⟨c, h⟩ : S12288x256.Idx)
      = V (Proc.devRef .tc main_v2) (ix2 j c : S12288x128.Idx) := by
  after_reads_at

/-- Column 136 of the right factor is all ones. -/
theorem host1_v13_one (j : Fin 12288) :
    StableHlo.after hostOps1 V (Proc.devRef .tc main_v13) (ix2 j 136 : S12288x256.Idx) = (1 : EReal) := by
  after_reads_at
  after_reads_at

/-- Columns 128 to 135 of the right factor mark the nodes of each label. -/
theorem host1_v13_lab (j : Fin 12288) (l : Fin 8) (h : 128 + (l : ℕ) < 256) :
    StableHlo.after hostOps1 V (Proc.devRef .tc main_v13) (ix2 j ⟨128 + l, h⟩ : S12288x256.Idx)
      = if V (Proc.devRef .tc main_arg2) (ix1 j : S12288.Idx) = BitVec.ofNat 32 l then (1 : EReal) else 0 := by
  after_reads_at
  after_reads_at
  show ((((IntOp.cmpi CmpIPredicate.eq (V (Proc.devRef .tc main_arg2) (ix1 j : S12288.Idx)) (BitVec.ofNat 32 l)).toNat : ℝ)) : EReal) = _
  by_cases hl : V (Proc.devRef .tc main_arg2) (ix1 j : S12288.Idx) = BitVec.ofNat 32 l
  · rw [if_pos hl, hl]; simp [IntOp.cmpi]
  · rw [if_neg hl]; simp [IntOp.cmpi, hl]

/-- The first score array, rearranged to 8 rows of 1536, keeps the order of the nodes. -/
theorem host2_v16 (a : Fin 8) (b : Fin 1536) (t : Fin 48) (r : Fin 256) (h : 1536 * (a : ℕ) + b = 256 * t + r) :
    StableHlo.after hostOps2 V (Proc.devRef .tc main_v16) (ix2 a b : S8x1536.Idx)
      = V (Proc.devRef .tc main_v15_0) (ix3 t r 0 : S48x256x1.Idx) := by
  after_reads_at
  rw [show (⟨(a : ℕ) * 6 + (b : ℕ) / 256, _⟩ : Fin 48) = t from Fin.ext (by show (a : ℕ) * 6 + (b : ℕ) / 256 = (t : ℕ); omega),
    show (⟨(b : ℕ) % 256, _⟩ : Fin 256) = r from Fin.ext (by show (b : ℕ) % 256 = (r : ℕ); omega)]

/-- The second score array, rearranged to 8 rows of 1536, keeps the order of the nodes. -/
theorem host2_v17 (a : Fin 8) (b : Fin 1536) (t : Fin 48) (r : Fin 256) (h : 1536 * (a : ℕ) + b = 256 * t + r) :
    StableHlo.after hostOps2 V (Proc.devRef .tc main_v17) (ix2 a b : S8x1536.Idx)
      = V (Proc.devRef .tc main_v15_1) (ix3 t r 0 : S48x256x1.Idx) := by
  after_reads_at
  rw [show (⟨(a : ℕ) * 6 + (b : ℕ) / 256, _⟩ : Fin 48) = t from Fin.ext (by show (a : ℕ) * 6 + (b : ℕ) / 256 = (t : ℕ); omega),
    show (⟨(b : ℕ) % 256, _⟩ : Fin 256) = r from Fin.ext (by show (b : ℕ) % 256 = (r : ℕ); omega)]

/-- The third score array, rearranged to 8 rows of 1536, keeps the order of the nodes. -/
theorem host2_v18 (a : Fin 8) (b : Fin 1536) (t : Fin 48) (r : Fin 256) (h : 1536 * (a : ℕ) + b = 256 * t + r) :
    StableHlo.after hostOps2 V (Proc.devRef .tc main_v18) (ix2 a b : S8x1536.Idx)
      = V (Proc.devRef .tc main_v15_2) (ix3 t r 0 : S48x256x1.Idx) := by
  after_reads_at
  rw [show (⟨(a : ℕ) * 6 + (b : ℕ) / 256, _⟩ : Fin 48) = t from Fin.ext (by show (a : ℕ) * 6 + (b : ℕ) / 256 = (t : ℕ); omega),
    show (⟨(b : ℕ) % 256, _⟩ : Fin 256) = r from Fin.ext (by show (b : ℕ) % 256 = (r : ℕ); omega)]

/-- The fourth score array, rearranged to 8 rows of 1536, keeps the order of the nodes. -/
theorem host2_v19 (a : Fin 8) (b : Fin 1536) (t : Fin 48) (r : Fin 256) (h : 1536 * (a : ℕ) + b = 256 * t + r) :
    StableHlo.after hostOps2 V (Proc.devRef .tc main_v19) (ix2 a b : S8x1536.Idx)
      = V (Proc.devRef .tc main_v15_3) (ix3 t r 0 : S48x256x1.Idx) := by
  after_reads_at
  rw [show (⟨(a : ℕ) * 6 + (b : ℕ) / 256, _⟩ : Fin 48) = t from Fin.ext (by show (a : ℕ) * 6 + (b : ℕ) / 256 = (t : ℕ); omega),
    show (⟨(b : ℕ) % 256, _⟩ : Fin 256) = r from Fin.ext (by show (b : ℕ) % 256 = (r : ℕ); omega)]

/-- The list of nodes, read as one axis, is the row the last region stored. -/
theorem host3_v21 (t : Fin 512) :
    StableHlo.after hostOps3 V (Proc.devRef .tc main_v21) (ix1 t : S512.Idx)
      = V (Proc.devRef .tc main_v20) (ix2 0 t : S1x512.Idx) := by
  after_reads_at

end Cert.KernelIdeal.Gen

end
-- ==== Proof.Region0.lean ====
module

public import proofs.«01_k».proof.Proof.Gen.KernelIdeal.Frame
public import Idealize.ShloMosaic.Lib.Pipeline.ValueKit
public import Idealize.ShloMosaic.PureOps.Ideal

/-!
The first region: what its output array holds when it ends.
-/

@[expose] public section

set_option maxRecDepth 16384

noncomputable section

namespace Cert.KernelIdeal.Gen

open Idealize.ShloMosaic Idealize.ShloMosaic.TcCoe
open Idealize.SL.Sem
open Idealize.ShloMosaic.Pipeline (Dat)

variable (V : (c : Dev nD) → (b : Ref sig .tc) → Buf (Elt Ideal) ((c : Thread nD τ).loc b))

/-- Every window's block of the first region is the block at the origin. -/
theorem region0_idx : win0_0.index t0_0 = ![0, 0] ∧ win0_1.index t0_0 = ![0, 0] ∧ win0_2.index t0_0 = ![0, 0] := by
  decide +kernel

/-- The first region leaves in its output array the kernel's payload of the three whole input arrays. -/
theorem region0_final (c : Dev nD) :
    (dat0 V c).arrAt 3 cfg0.N = k0_pay1 (F := Ideal) (V c main_arg1) (V c main_v0) (V c main_v1) := by
  have e0 : iblk0 V c 0 t0_0 = V c main_arg1 := by blk_ext! [iblk0, region0_idx.1]
  have e1 : iblk0 V c 1 t0_0 = V c main_v0 := by blk_ext! [iblk0, region0_idx.2.1]
  have e2 : iblk0 V c 2 t0_0 = V c main_v1 := by blk_ext! [iblk0, region0_idx.2.2]
  refine (dat0 V c).arrAt_eq_of_after_last 3 t0_0 (by decide +kernel) _ fun j => ?_
  blk_simp
  rw [after0_3]
  frame_out
  rw [e0, e1, e2]

end Cert.KernelIdeal.Gen

end
-- ==== Proof.Region1.lean ====
module

public import proofs.«01_k».proof.Proof.Gen.KernelIdeal.Frame
public import Idealize.ShloMosaic.Lib.Pipeline.ValueKit
public import Idealize.ShloMosaic.PureOps.Ideal
public import Idealize.ShloMosaic.Lib.Pointwise

/-!
The second region: what its four output arrays hold when it ends, point by point of the grid.
-/

@[expose] public section

set_option maxRecDepth 16384

noncomputable section

namespace Cert.KernelIdeal.Gen

open Idealize.ShloMosaic Idealize.ShloMosaic.TcCoe
open Idealize.SL.Sem
open Idealize.ShloMosaic.Pipeline (Dat)

variable (V : (c : Dev nD) → (b : Ref sig .tc) → Buf (Elt Ideal) ((c : Thread nD τ).loc b))

/-- The block of each window at a point of the grid: the four outputs, the weights and the features move with the point, the
    right factor and the head weights stay at the origin. -/
theorem region1_idx : ∀ t : Fin cfg1.N, win1_5.index t = ![t.val, 0, 0] ∧ win1_6.index t = ![t.val, 0, 0]
    ∧ win1_7.index t = ![t.val, 0, 0] ∧ win1_8.index t = ![t.val, 0, 0] ∧ win1_0.index t = ![t.val, 0]
    ∧ win1_1.index t = ![0, 0] ∧ win1_2.index t = ![t.val, 0] ∧ win1_3.index t = ![0, 0] :=
  (by decide +kernel : ∀ t : Fin grid1.N, _)

/-- At a point of the grid the body leaves in the first output window the smoothness term of its blocks. -/
theorem region1_out5 (c : Dev nD) (t : Fin cfg1.N) : (dat1 V c).after 5 t
    = k1_pay6 (F := Ideal) (iblk1 V c 0 t) (iblk1 V c 1 t) (iblk1 V c 2 t) := by
  rw [after1_5]; unfold outsAt1; frame_out

/-- At a point of the grid the body leaves in the third output window the boundary flag of its blocks. -/
theorem region1_out7 (c : Dev nD) (t : Fin cfg1.N) : (dat1 V c).after 7 t
    = k1_pay11 (F := Ideal) (k1_pay8 (iblk1 V c 0 t) (iblk1 V c 1 t)) k1_pay9 k1_pay10 := by
  rw [after1_7]; unfold outsAt1; frame_out

/-- At a point of the grid the body leaves in the second output window the linear head of its blocks. -/
theorem region1_out6 (c : Dev nD) (t : Fin cfg1.N) : (dat1 V c).after 6 t
    = k1_pay7 (F := Ideal) (iblk1 V c 0 t) (iblk1 V c 1 t) (iblk1 V c 3 t) (V c main_arg6 (ix1 0)) := by
  rw [after1_6]; unfold outsAt1; frame_out
  congr 1
  show V c main_arg6 _ = _
  congr 1
  funext a
  match a with
  | ⟨0, _⟩ => exact Subsingleton.elim (α := Fin 1) _ _

/-- At a point of the grid the body leaves in the fourth output window the entropy of its block of features. -/
theorem region1_out8 (c : Dev nD) (t : Fin cfg1.N) : (dat1 V c).after 8 t = k1_pay1 (F := Ideal) (k1_pay17 (k1_pay12 (k1_pay5 (iblk1 V c 2 t))))
      (k1_pay21 (k1_pay19 (k1_pay12 (k1_pay5 (iblk1 V c 2 t)))) k1_pay20)
      (k1_pay22 (k1_pay12 (k1_pay5 (iblk1 V c 2 t)))) (k1_pay23 (k1_pay12 (k1_pay5 (iblk1 V c 2 t))))
      (k1_pay24 (k1_pay12 (k1_pay5 (iblk1 V c 2 t))))
      (k1_pay27 (k1_pay26 (k1_pay12 (k1_pay5 (iblk1 V c 2 t)))) (FloatOps.ofBits FTy.f32 1065353216#32))
      (k1_pay28 (k1_pay12 (k1_pay5 (iblk1 V c 2 t)))) (k1_pay29 (k1_pay12 (k1_pay5 (iblk1 V c 2 t))))
      (k1_pay30 (k1_pay12 (k1_pay5 (iblk1 V c 2 t)))
        (k1_pay25 (k1_pay12 (k1_pay5 (iblk1 V c 2 t)))
          (k1_pay18 (k1_pay12 (k1_pay5 (iblk1 V c 2 t))) k1_pay13 (k1_pay14 (k1_pay5 (iblk1 V c 2 t))))
          (k1_pay19 (k1_pay12 (k1_pay5 (iblk1 V c 2 t)))) k1_pay20)
        (k1_pay26 (k1_pay12 (k1_pay5 (iblk1 V c 2 t)))) (FloatOps.ofBits FTy.f32 1065353216#32))
      (k1_pay31 (k1_pay12 (k1_pay5 (iblk1 V c 2 t))) (k1_pay15 (k1_pay14 (k1_pay5 (iblk1 V c 2 t))))
        (k1_pay16 (k1_pay12 (k1_pay5 (iblk1 V c 2 t))))
        (k1_pay25 (k1_pay12 (k1_pay5 (iblk1 V c 2 t)))
          (k1_pay18 (k1_pay12 (k1_pay5 (iblk1 V c 2 t))) k1_pay13 (k1_pay14 (k1_pay5 (iblk1 V c 2 t))))
          (k1_pay19 (k1_pay12 (k1_pay5 (iblk1 V c 2 t)))) k1_pay20)
        (k1_pay26 (k1_pay12 (k1_pay5 (iblk1 V c 2 t)))) (FloatOps.ofBits FTy.f32 1065353216#32)) := by
  rw [after1_8]; unfold outsAt1; frame_out

/-- Different points of the grid write different blocks of the first output. -/
theorem region1_inj5 : ∀ t t' : Fin cfg1.N, (cfg1.win 5).flush t = true → (cfg1.win 5).flush t' = true → (cfg1.win 5).index t = (cfg1.win 5).index t' → t = t' :=
  fun t t' _ _ h => Fin.ext (by
    have h2 := congrFun h 0
    change win1_5.index t 0 = win1_5.index t' 0 at h2
    rw [(region1_idx t).1, (region1_idx t').1] at h2
    exact h2)

/-- The first output array ends with what the body left at each point of the grid. -/
theorem region1_final5 (c : Dev nD) (t : Fin cfg1.N) (r : Fin 256) :
    (dat1 V c).arrAt 5 cfg1.N (ix3 t r 0 : S48x256x1.Idx) = (dat1 V c).after 5 t (ix3 0 r 0 : S1x256x1.Idx) := by
  have h := (dat1 V c).arrAt_emb_eq_flushed 5 (Pipeline.Window.hdisj_of_index_inj _ region1_inj5) t (flush1_5 t) (ix3 0 r 0 : S1x256x1.Idx)
  have e : ((cfg1.win 5).blk t).view.emb (ix3 0 r 0 : S1x256x1.Idx) = (ix3 t r 0 : S48x256x1.Idx) := by
    blk_ext [(region1_idx t).1]
  rw [e] at h
  refine h.trans ?_
  blk_simp

/-- Different points of the grid write different blocks of the second output. -/
theorem region1_inj6 : ∀ t t' : Fin cfg1.N, (cfg1.win 6).flush t = true → (cfg1.win 6).flush t' = true → (cfg1.win 6).index t = (cfg1.win 6).index t' → t = t' :=
  fun t t' _ _ h => Fin.ext (by
    have h2 := congrFun h 0
    change win1_6.index t 0 = win1_6.index t' 0 at h2
    rw [(region1_idx t).2.1, (region1_idx t').2.1] at h2
    exact h2)

/-- The second output array ends with what the body left at each point of the grid. -/
theorem region1_final6 (c : Dev nD) (t : Fin cfg1.N) (r : Fin 256) :
    (dat1 V c).arrAt 6 cfg1.N (ix3 t r 0 : S48x256x1.Idx) = (dat1 V c).after 6 t (ix3 0 r 0 : S1x256x1.Idx) := by
  have h := (dat1 V c).arrAt_emb_eq_flushed 6 (Pipeline.Window.hdisj_of_index_inj _ region1_inj6) t (flush1_6 t) (ix3 0 r 0 : S1x256x1.Idx)
  have e : ((cfg1.win 6).blk t).view.emb (ix3 0 r 0 : S1x256x1.Idx) = (ix3 t r 0 : S48x256x1.Idx) := by
    blk_ext [(region1_idx t).2.1]
  rw [e] at h
  refine h.trans ?_
  blk_simp

/-- Different points of the grid write different blocks of the third output. -/
theorem region1_inj7 : ∀ t t' : Fin cfg1.N, (cfg1.win 7).flush t = true → (cfg1.win 7).flush t' = true → (cfg1.win 7).index t = (cfg1.win 7).index t' → t = t' :=
  fun t t' _ _ h => Fin.ext (by
    have h2 := congrFun h 0
    change win1_7.index t 0 = win1_7.index t' 0 at h2
    rw [(region1_idx t).2.2.1, (region1_idx t').2.2.1] at h2
    exact h2)

/-- The third output array ends with what the body left at each point of the grid. -/
theorem region1_final7 (c : Dev nD) (t : Fin cfg1.N) (r : Fin 256) :
    (dat1 V c).arrAt 7 cfg1.N (ix3 t r 0 : S48x256x1.Idx) = (dat1 V c).after 7 t (ix3 0 r 0 : S1x256x1.Idx) := by
  have h := (dat1 V c).arrAt_emb_eq_flushed 7 (Pipeline.Window.hdisj_of_index_inj _ region1_inj7) t (flush1_7 t) (ix3 0 r 0 : S1x256x1.Idx)
  have e : ((cfg1.win 7).blk t).view.emb (ix3 0 r 0 : S1x256x1.Idx) = (ix3 t r 0 : S48x256x1.Idx) := by
    blk_ext [(region1_idx t).2.2.1]
  rw [e] at h
  refine h.trans ?_
  blk_simp

/-- Different points of the grid write different blocks of the fourth output. -/
theorem region1_inj8 : ∀ t t' : Fin cfg1.N, (cfg1.win 8).flush t = true → (cfg1.win 8).flush t' = true → (cfg1.win 8).index t = (cfg1.win 8).index t' → t = t' :=
  fun t t' _ _ h => Fin.ext (by
    have h2 := congrFun h 0
    change win1_8.index t 0 = win1_8.index t' 0 at h2
    rw [(region1_idx t).2.2.2.1, (region1_idx t').2.2.2.1] at h2
    exact h2)

/-- The fourth output array ends with what the body left at each point of the grid. -/
theorem region1_final8 (c : Dev nD) (t : Fin cfg1.N) (r : Fin 256) :
    (dat1 V c).arrAt 8 cfg1.N (ix3 t r 0 : S48x256x1.Idx) = (dat1 V c).after 8 t (ix3 0 r 0 : S1x256x1.Idx) := by
  have h := (dat1 V c).arrAt_emb_eq_flushed 8 (Pipeline.Window.hdisj_of_index_inj _ region1_inj8) t (flush1_8 t) (ix3 0 r 0 : S1x256x1.Idx)
  have e : ((cfg1.win 8).blk t).view.emb (ix3 0 r 0 : S1x256x1.Idx) = (ix3 t r 0 : S48x256x1.Idx) := by
    blk_ext [(region1_idx t).2.2.2.1]
  rw [e] at h
  refine h.trans ?_
  blk_simp

/-- The block of weights at a point of the grid holds the 256 rows from 256 times the point on. -/
theorem region1_block0 (c : Dev nD) (t : Fin cfg1.N) (r : Fin 256) (i : Fin 12288) (hi : (i : ℕ) = 256 * t + r) (j : Fin 12288) :
    iblk1 V c 0 t (ix2 r j : S256x12288.Idx) = V c main_arg0 (ix2 i j : S12288x12288.Idx) := by
  blk_simp [iblk1]
  blk_ext! [(region1_idx t).2.2.2.2.1]

/-- The block of features at a point of the grid holds the 256 rows from 256 times the point on. -/
theorem region1_block2 (c : Dev nD) (t : Fin cfg1.N) (r : Fin 256) (i : Fin 12288) (hi : (i : ℕ) = 256 * t + r) (j : Fin 128) :
    iblk1 V c 2 t (ix2 r j : S256x128.Idx) = V c main_v2 (ix2 i j : S12288x128.Idx) := by
  blk_simp [iblk1]
  blk_ext! [(region1_idx t).2.2.2.2.2.2.1]

/-- The block of the right factor is the whole array at every point of the grid. -/
theorem region1_block1 (c : Dev nD) (t : Fin cfg1.N) :
    iblk1 V c 1 t = V c main_v13 := by
  blk_ext! [iblk1, (region1_idx t).2.2.2.2.2.1]

/-- The block of head weights is the whole array at every point of the grid. -/
theorem region1_block3 (c : Dev nD) (t : Fin cfg1.N) :
    iblk1 V c 3 t = V c main_v14 := by
  blk_ext! [iblk1, (region1_idx t).2.2.2.2.2.2.2]

end Cert.KernelIdeal.Gen

end
-- ==== Proof.Region2.lean ====
module

public import proofs.«01_k».proof.Proof.Gen.KernelIdeal.Frame
public import Idealize.ShloMosaic.Lib.Pipeline.ValueKit
public import Idealize.ShloMosaic.PureOps.Ideal

/-!
The third region: what its output array holds when it ends.
-/

@[expose] public section

set_option maxRecDepth 16384

noncomputable section

namespace Cert.KernelIdeal.Gen

open Idealize.ShloMosaic Idealize.ShloMosaic.TcCoe
open Idealize.SL.Sem
open Idealize.ShloMosaic.Pipeline (Dat)

variable (V : (c : Dev nD) → (b : Ref sig .tc) → Buf (Elt Ideal) ((c : Thread nD τ).loc b))

/-- Every input window's block of the third region is the block at the origin. -/
theorem region2_idx : win2_0.index t2_0 = ![0, 0] ∧ win2_1.index t2_0 = ![0, 0] ∧ win2_2.index t2_0 = ![0, 0]
    ∧ win2_3.index t2_0 = ![0, 0] := by
  decide +kernel

/-- The third region leaves in its output array the second component of its loop, started from the scores of the four
    whole input arrays and from an array of zeros. -/
theorem region2_final (c : Dev nD) :
    (dat2 V c).arrAt 4 cfg2.N = (Scf.fold
          (fun t s =>
            (k2_pay4 (F := Ideal) (iota Kind.tc S8x1536 32 [0] iota_S8x1536_d0_w32) (1536#32) s.1,
              k2_pay3 (F := Ideal) (iota Kind.tc S8x1536 32 [0] iota_S8x1536_d0_w32) (1536#32) t s.1 s.2))
          (k2_pay5 (F := Ideal) (V c main_v17) (V c main_v19) (V c main_v18) (V c main_v16),
            k2_pay2)).2 := by
  have e0 : iblk2 V c 0 t2_0 = V c main_v16 := by blk_ext! [iblk2, region2_idx.1]
  have e1 : iblk2 V c 1 t2_0 = V c main_v17 := by blk_ext! [iblk2, region2_idx.2.1]
  have e2 : iblk2 V c 2 t2_0 = V c main_v18 := by blk_ext! [iblk2, region2_idx.2.2.1]
  have e3 : iblk2 V c 3 t2_0 = V c main_v19 := by blk_ext! [iblk2, region2_idx.2.2.2]
  refine (dat2 V c).arrAt_eq_of_after_last 4 t2_0 (by decide +kernel) _ fun j => ?_
  blk_simp
  rw [after2_4]
  unfold outsAt2
  frame_out
  rw [e0, e1, e2, e3]
  have r0 : ∀ X, View.read (Elt Ideal) (View.whole cc2_stg0_0) ((hs2_0 t2_0).unread X) = X :=
    fun X => (hs2_0 t2_0).read_unread X
  have r1 : ∀ X, View.read (Elt Ideal) (View.whole cc2_stg1_0) ((hs2_1 t2_0).unread X) = X :=
    fun X => (hs2_1 t2_0).read_unread X
  have r2 : ∀ X, View.read (Elt Ideal) (View.whole cc2_stg2_0) ((hs2_2 t2_0).unread X) = X :=
    fun X => (hs2_2 t2_0).read_unread X
  have r3 : ∀ X, View.read (Elt Ideal) (View.whole cc2_stg3_0) ((hs2_3 t2_0).unread X) = X :=
    fun X => (hs2_3 t2_0).read_unread X
  rw [r0, r1, r2, r3]

end Cert.KernelIdeal.Gen

end
-- ==== Proof.RefTop.lean ====
module

public import proofs.«01_k».proof.Proof.Gen.ReferenceIdeal.Read
public import Idealize.ShloMosaic.PureOps.Ideal
public import Idealize.ShloMosaic.Lib.Pointwise

/-!
The reference's choice of the 512 best nodes, entry by entry: the index list it returns holds, at each rank, the node
that a stable sort by falling score puts there.
-/

@[expose] public section

set_option maxRecDepth 16384

noncomputable section

namespace Cert.Own

open Idealize.ShloMosaic

/-- The second result of a sort of two one-axis arrays, read at a position. -/
theorem sort_second_at {n : ℕ} {α β : Type} (cmp : α × β → α × β → BitVec 1) (x : Shape.Idx ⟨1, ![n]⟩ → α)
    (y : Shape.Idx ⟨1, ![n]⟩ → β) (k : Fin n) :
    (Host.sort2 ⟨1, ![n]⟩ 0 cmp x y).2 (ix1 k)
      = y (ix1 (sortedFrom (fun a b : Fin n => cmp (x (ix1 a), y (ix1 a)) (x (ix1 b), y (ix1 b)) == 1#1) k)) := by
  have ha : ∀ (j : Shape.Idx ⟨1, ![n]⟩) (a : Fin n), Shape.Idx.along j (0 : Fin 1) a = ix1 a := fun j a =>
    funext fun d => match d with
      | ⟨0, _⟩ => Function.update_self (β := fun d : Fin 1 => Fin (![n] d)) ..
  show y (Shape.Idx.along (ix1 k) (0 : Fin 1) (sortedFrom (fun a b : Fin n =>
    cmp (x (Shape.Idx.along (ix1 k) (0 : Fin 1) a), y (Shape.Idx.along (ix1 k) (0 : Fin 1) a))
      (x (Shape.Idx.along (ix1 k) (0 : Fin 1) b), y (Shape.Idx.along (ix1 k) (0 : Fin 1) b)) == 1#1) k)) = _
  simp only [ha]
  exact congrArg y (ha _ _)

/-- The list of the `k` greatest of a one-axis array holds, at each rank, the position a stable sort by falling value
    puts there. -/
theorem top_at {n k : ℕ} (hk : k ≤ n) (x : FVec Ideal ⟨1, ![n]⟩ .f32)
    (h : Shape.Slices ⟨1, ![n]⟩ (fun _ => 0) ⟨1, ![k]⟩) (r : Fin k) :
    (Host.topK ⟨1, ![k]⟩ 0 (FloatOps.cmpfTotal (F := Ideal) (φ := .f32) .gt) x h).2 (ix1 r)
      = BitVec.ofNat 32 (sortedFrom (fun a b : Fin n => decide (x (ix1 b) < x (ix1 a))) (r.castLE hk)) := by
  have e : ∀ j : Shape.Idx ⟨1, ![n]⟩, ((j 0 : Fin n) : ℕ) = r → j = ix1 (r.castLE hk) := fun j hj =>
    funext fun d => match d with
      | ⟨0, _⟩ => Fin.ext hj
  unfold Host.topK extractStridedSlice
  dsimp only
  rw [e (fun a => _) (Nat.zero_add (r : ℕ)), sort_second_at]
  show BitVec.ofNat 32 (sortedFrom (fun a b : Fin n => (BitVec.ofBool (decide (x (ix1 b) < x (ix1 a))) == 1#1))
    (r.castLE hk) : Fin n) = _
  refine congrArg (fun f => BitVec.ofNat 32 (sortedFrom f (r.castLE hk) : Fin n)) ?_
  funext a b
  cases decide (x (ix1 b) < x (ix1 a)) <;> rfl

end Cert.Own

end
-- ==== Proof.Values.lean ====
module

public import proofs.«01_k».proof.Proof.Bn
public import proofs.«01_k».proof.Proof.ScanZ
public import proofs.«01_k».proof.Proof.Boundary
public import proofs.«01_k».proof.Proof.Het
public import proofs.«01_k».proof.Proof.Finalize
public import proofs.«01_k».proof.Proof.Trips
public import proofs.«01_k».proof.Proof.HostOps
public import proofs.«01_k».proof.Proof.Region0
public import proofs.«01_k».proof.Proof.Region1
public import proofs.«01_k».proof.Proof.Region2
public import proofs.«01_k».proof.Proof.RefTop

/-!
The kernel's two computed results as functions of its arguments: the buffers are followed from one segment boundary to
the next, and what each holds is identified with a value of the reference.
-/

@[expose] public section

set_option maxRecDepth 16384

noncomputable section

namespace Cert.Own

open Idealize.ShloMosaic Idealize.ShloMosaic.TcCoe Idealize.SL.Sem
open Cert.KernelIdeal Cert.KernelIdeal.Gen Cert.ReferenceIdeal.Read

variable (m : (ℓ : Loc nD τ sig) → Buf (Elt Ideal) ℓ) (ρ : Dev nD → PrngReg) (c : Dev nD)

/-- The weights at launch. -/
abbrev a0 : FVec Ideal Cert.ReferenceIdeal.S12288x12288 .f32 := m ((c : Thread nD τ).loc main_arg0)
/-- The features at launch. -/
abbrev a1 : FVec Ideal Cert.ReferenceIdeal.S12288x128 .f32 := m ((c : Thread nD τ).loc main_arg1)
/-- The labels at launch. -/
abbrev a2 : IVec Cert.ReferenceIdeal.S12288 32 := m ((c : Thread nD τ).loc main_arg2)
/-- The normalisation's scale at launch. -/
abbrev a3 : FVec Ideal Cert.ReferenceIdeal.S128 .f32 := m ((c : Thread nD τ).loc main_arg3)
/-- The normalisation's shift at launch. -/
abbrev a4 : FVec Ideal Cert.ReferenceIdeal.S128 .f32 := m ((c : Thread nD τ).loc main_arg4)
/-- The linear head's weights at launch. -/
abbrev a5 : FVec Ideal Cert.ReferenceIdeal.S128 .f32 := m ((c : Thread nD τ).loc main_arg5)
/-- The linear head's bias at launch. -/
abbrev a6 : FVec Ideal Cert.ReferenceIdeal.S1 .f32 := m ((c : Thread nD τ).loc main_arg6)

/-- After the first region the normalised features are the reference's. -/
theorem features_stored (i : Fin 12288) (k : Fin 128) : W2 m ρ c (Proc.devRef .tc main_v2) (ix2 i k : S12288x128.Idx)
    = val_main_v18 (F := Ideal) (a1 m c) (a3 m c) (a4 m c) (ix2 i k) := by
  have e : W2 m ρ c (Proc.devRef .tc main_v2) = (dat0 (V1 m ρ) c).arrAt 3 cfg0.N := W2_arr m ρ c 3
  rw [e, region0_final, show V1 m ρ c main_arg1 = a1 m c from W1_args m ρ c main_arg1 (by decide)]
  exact bn_entry (a1 m c) (a3 m c) (a4 m c) _ _ (fun k => host0_v0 _ k) (fun k => host0_v1 _ k) i k

/-- The kernel's second result is the reference's: no later segment changes the normalised features. -/
theorem features_result : W7 m ρ c (Proc.devRef .tc main_v2)
    = val_main_v18 (F := Ideal) (a1 m c) (a3 m c) (a4 m c) := by
  rw [W7_of m ρ c main_v2 (by decide), W6_of m ρ c main_v2 (by decide +kernel), W5_of m ρ c main_v2 (by decide),
    W4_of m ρ c main_v2 (by decide +kernel), W3_of m ρ c main_v2 (by decide)]
  funext j
  rw [eq_ix2 j]
  exact features_stored m ρ c _ _

variable (t : Fin 48) (r : Fin 256) (i : Fin 12288)

/-- The scan's block of weights holds the rows of its point of the grid. -/
theorem block_weights (hi : (i : ℕ) = 256 * t + r) (j : Fin 12288) :
    iblk1 (V3 m ρ) c 0 t (ix2 r j : S256x12288.Idx) = a0 m c (ix2 i j) :=
  (region1_block0 (V3 m ρ) c t r i hi j).trans (congrFun (W3_args m ρ c main_arg0 (by decide)) _)

/-- The scan's block of features holds the rows of its point of the grid. -/
theorem block_features (hi : (i : ℕ) = 256 * t + r) (k : Fin 128) :
    iblk1 (V3 m ρ) c 2 t (ix2 r k : S256x128.Idx) = val_main_v18 (F := Ideal) (a1 m c) (a3 m c) (a4 m c) (ix2 i k) :=
  (region1_block2 (V3 m ρ) c t r i hi k).trans
    ((congrFun (W3_of m ρ c main_v2 (by decide)) _).trans (features_stored m ρ c i k))

/-- The first 128 columns of the scan's right factor are the normalised features. -/
theorem factor_features (j : Fin 12288) (k : Fin 128) (h : (k : ℕ) < 256) :
    iblk1 (V3 m ρ) c 1 t (ix2 j ⟨k, h⟩ : S12288x256.Idx)
      = val_main_v18 (F := Ideal) (a1 m c) (a3 m c) (a4 m c) (ix2 j k) :=
  (congrFun (region1_block1 (V3 m ρ) c t) _).trans ((host1_v13_h _ j k h).trans (features_stored m ρ c j k))

/-- Column 136 of the scan's right factor is all ones. -/
theorem factor_one (j : Fin 12288) : iblk1 (V3 m ρ) c 1 t (ix2 j 136 : S12288x256.Idx) = (1 : EReal) :=
  (congrFun (region1_block1 (V3 m ρ) c t) _).trans (host1_v13_one _ j)

/-- Columns 128 to 135 of the scan's right factor mark the nodes of each label. -/
theorem factor_labels (j : Fin 12288) (l : Fin 8) (h : 128 + (l : ℕ) < 256) :
    iblk1 (V3 m ρ) c 1 t (ix2 j ⟨128 + l, h⟩ : S12288x256.Idx)
      = if a2 m c (ix1 j) = BitVec.ofNat 32 l then (1 : EReal) else 0 := by
  refine (congrFun (region1_block1 (V3 m ρ) c t) _).trans ((host1_v13_lab _ j l h).trans ?_)
  rw [W2_args m ρ c main_arg2 (by decide)]

/-- The scan's block of head weights is the argument. -/
theorem block_head (k : Fin 128) : iblk1 (V3 m ρ) c 3 t (ix2 0 k : S1x128.Idx) = a5 m c (ix1 k) :=
  (congrFun (region1_block3 (V3 m ρ) c t) _).trans
    ((host1_v14 _ k).trans (congrFun (W2_args m ρ c main_arg5 (by decide)) _))

/-- After the scan the first score array holds the reference's smoothness term. -/
theorem scan_smooth (hi : (i : ℕ) = 256 * t + r) (hD : 0 < ∑ j : Fin 12288, a0 m c (ix2 i j)) :
    W4 m ρ c (Proc.devRef .tc main_v15_0) (ix3 t r 0 : S48x256x1.Idx)
      = val_main_v33 (F := Ideal) (a0 m c) (a1 m c) (a3 m c) (a4 m c) (ix1 i) := by
  have e : W4 m ρ c (Proc.devRef .tc main_v15_0) = (dat1 (V3 m ρ) c).arrAt 5 cfg1.N := W4_arr m ρ c 5
  rw [e]
  refine (region1_final5 (V3 m ρ) c t r).trans ((congrFun (region1_out5 (V3 m ρ) c t) _).trans ?_)
  exact z12_entry (a0 m c) (a1 m c) (a3 m c) (a4 m c) _ _ _ r i (block_weights m ρ c t r i hi)
    (factor_features m ρ c t) (factor_one m ρ c t) (block_features m ρ c t r i hi) hD

/-- After the scan the second score array holds the reference's linear head. -/
theorem scan_head (hi : (i : ℕ) = 256 * t + r) (hD : 0 < ∑ j : Fin 12288, a0 m c (ix2 i j)) :
    W4 m ρ c (Proc.devRef .tc main_v15_1) (ix3 t r 0 : S48x256x1.Idx)
      = val_main_v37 (F := Ideal) (a0 m c) (a1 m c) (a3 m c) (a4 m c) (a5 m c) (a6 m c) (ix1 i) := by
  have e : W4 m ρ c (Proc.devRef .tc main_v15_1) = (dat1 (V3 m ρ) c).arrAt 6 cfg1.N := W4_arr m ρ c 6
  rw [e]
  refine (region1_final6 (V3 m ρ) c t r).trans ((congrFun (region1_out6 (V3 m ρ) c t) _).trans ?_)
  exact z3_entry (a0 m c) (a1 m c) (a3 m c) (a4 m c) (a5 m c) (a6 m c) _ _ r i (block_weights m ρ c t r i hi)
    (factor_features m ρ c t) (factor_one m ρ c t) _ (block_head m ρ c t) _
    (congrFun (W3_args m ρ c main_arg6 (by decide)) _) hD

/-- After the scan the third score array holds the reference's boundary flag. -/
theorem scan_boundary (hi : (i : ℕ) = 256 * t + r) (hpos : ∀ j : Fin 12288, 0 ≤ a0 m c (ix2 i j))
    (hlab : ∀ j : Fin 12288, 0 ≤ (a2 m c (ix1 j)).toInt ∧ (a2 m c (ix1 j)).toInt < 8) :
    W4 m ρ c (Proc.devRef .tc main_v15_2) (ix3 t r 0 : S48x256x1.Idx)
      = val_main_v59 (F := Ideal) (a0 m c) (a2 m c) (ix1 i) := by
  have e : W4 m ρ c (Proc.devRef .tc main_v15_2) = (dat1 (V3 m ρ) c).arrAt 7 cfg1.N := W4_arr m ρ c 7
  rw [e]
  refine (region1_final7 (V3 m ρ) c t r).trans ((congrFun (region1_out7 (V3 m ρ) c t) _).trans ?_)
  exact boundary_entry (a0 m c) (a2 m c) _ _ r i (block_weights m ρ c t r i hi) (factor_labels m ρ c t) hpos hlab

/-- After the scan the fourth score array holds the reference's entropy. -/
theorem scan_entropy (hi : (i : ℕ) = 256 * t + r) :
    W4 m ρ c (Proc.devRef .tc main_v15_3) (ix3 t r 0 : S48x256x1.Idx)
      = val_main_v100 (F := Ideal) (a1 m c) (a3 m c) (a4 m c) (ix1 i) := by
  have e : W4 m ρ c (Proc.devRef .tc main_v15_3) = (dat1 (V3 m ρ) c).arrAt 8 cfg1.N := W4_arr m ρ c 8
  rw [e]
  refine (region1_final8 (V3 m ρ) c t r).trans ((congrFun (region1_out8 (V3 m ρ) c t) _).trans ?_)
  exact het_entry (a1 m c) (a3 m c) (a4 m c) (iblk1 (V3 m ρ) c 2 t) r i (block_features m ρ c t r i hi) _ rfl _ rfl _ rfl

end Cert.Own

end
-- ==== Proof.Pre.lean ====
module

public import proofs.«01_k».proof.Defs
public import proofs.«01_k».proof.Proof.Gen.Pre_weighted_graph
public import proofs.«01_k».proof.Proof.ScanZ

/-!
What the precondition says: the weights are non-negative, every node has positive degree, every label is one of the
eight.
-/

@[expose] public section

set_option maxRecDepth 16384

noncomputable section

namespace Cert.Own

open Idealize.ShloMosaic Cert.ReferenceIdeal.Read

/-- The literal zero. -/
theorem lit_zero : Ideal.ofBits .f32 0#32 = 0 := by
  simp [Ideal.ofBits, Ideal.ieee]

/-- A one-bit word made of a truth value is one only when it is true. -/
theorem bit_true (b : Bool) (h : BitVec.ofBool b = 1#1) : b = true := by
  cases b
  · exact absurd h (by decide)
  · rfl

variable (x0 : FVec Ideal Cert.ReferenceIdeal.S12288x12288 .f32) (x1 : FVec Ideal Cert.ReferenceIdeal.S12288x128 .f32)
  (x2 : IVec Cert.ReferenceIdeal.S12288 32) (x3 x4 x5 : FVec Ideal Cert.ReferenceIdeal.S128 .f32)
  (x6 : FVec Ideal Cert.ReferenceIdeal.S1 .f32)

/-- The first check: no weight is negative. -/
theorem weights_nonneg (h : (Cert.Pre_weighted_graph.fn (F := Ideal) x0 x1 x2 x3 x4 x5 x6).1 = fun _ => 1#1)
    (i j : Fin 12288) : 0 ≤ x0 (ix2 i j) := by
  have e := congrFun h (ix2 i j)
  have e' : BitVec.ofBool (decide (Ideal.ofBits .f32 0#32 ≤ x0 (ix2 i j))) = 1#1 := e
  rw [lit_zero] at e'
  exact of_decide_eq_true (bit_true _ e')

/-- The second check: the weights of a row have a positive sum. -/
theorem degrees_pos (h : (Cert.Pre_weighted_graph.fn (F := Ideal) x0 x1 x2 x3 x4 x5 x6).2.1 = fun _ => 1#1)
    (i : Fin 12288) : 0 < ∑ j : Fin 12288, x0 (ix2 i j) := by
  have e := congrFun h (ix1 i)
  have e' : BitVec.ofBool (decide (Ideal.ofBits .f32 0#32 < val_main_v19 (F := Ideal) x0 (ix1 i))) = 1#1 := e
  rw [lit_zero, ref_degree] at e'
  exact of_decide_eq_true (bit_true _ e')

/-- The third and fourth checks: every label lies from 0 to 7. -/
theorem labels_range (h : (Cert.Pre_weighted_graph.fn (F := Ideal) x0 x1 x2 x3 x4 x5 x6).2.2.1 = fun _ => 1#1)
    (h' : (Cert.Pre_weighted_graph.fn (F := Ideal) x0 x1 x2 x3 x4 x5 x6).2.2.2 = fun _ => 1#1)
    (j : Fin 12288) : 0 ≤ (x2 (ix1 j)).toInt ∧ (x2 (ix1 j)).toInt < 8 := by
  have e : BitVec.ofBool ((0#32).sle (x2 (ix1 j))) = 1#1 := congrFun h (ix1 j)
  have e' : BitVec.ofBool ((x2 (ix1 j)).slt 8#32) = 1#1 := congrFun h' (ix1 j)
  exact ⟨of_decide_eq_true (bit_true _ e), of_decide_eq_true (bit_true _ e')⟩

end Cert.Own

end
-- ==== Proof.KernelRun.lean ====
module

public import proofs.«01_k».proof.Proof.Gen.KernelIdeal.Frame
public import Idealize.ShloMosaic.PureOps.Ideal

/-!
The kernel's run with its result arrays named: the same launch as the frame's, read at the two result buffers as well.
-/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution of the kernel ends with each result buffer at the contents that the last segment boundary gives it
    and with the arguments as launched. -/
theorem run_results : θ_run defs (onTc (τ := τ) (main (F := F))) ⟨m, fun _ => 0, ρ⟩ (fun r => ∀ c : Dev nD,
      r.2.mem ((c.tc : Thread nD τ).loc main_v2) = W7 m ρ c main_v2
      ∧ r.2.mem ((c.tc : Thread nD τ).loc main_v21) = W7 m ρ c main_v21
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h _ c =>
      ⟨h c _ (mem_uc main_v2 (by decide)), h c _ (mem_uc main_v21 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c)⟩)

end Cert.KernelIdeal.Gen

end
-- ==== Proof.Result.lean ====
module

public import proofs.«01_k».proof.Proof.Values
public import proofs.«01_k».proof.Proof.Pre
public import proofs.«01_k».proof.Proof.KernelRun
public import proofs.«01_k».proof.Proof.Gen.ReferenceIdeal.Run
public import Idealize.ShloMosaic.Adequacy

/-!
The kernel's list of nodes is the reference's, and with it the claim that both programs end with equal results.
-/

@[expose] public section

set_option maxRecDepth 16384

noncomputable section

namespace Cert.Own

open Idealize.ShloMosaic Idealize.ShloMosaic.TcCoe Idealize.SL.Sem
open Cert.KernelIdeal Cert.KernelIdeal.Gen Cert.ReferenceIdeal.Read

variable (m : (ℓ : Loc nD τ sig) → Buf (Elt Ideal) ℓ) (ρ : Dev nD → PrngReg) (c : Dev nD)

/-- What the precondition says of the arguments of one device. -/
structure Admissible : Prop where
  /-- No weight is negative. -/
  pos : ∀ i j : Fin 12288, 0 ≤ a0 m c (ix2 i j)
  /-- Every node has positive degree. -/
  deg : ∀ i : Fin 12288, 0 < ∑ j : Fin 12288, a0 m c (ix2 i j)
  /-- Every label is one of the eight. -/
  lab : ∀ j : Fin 12288, 0 ≤ (a2 m c (ix1 j)).toInt ∧ (a2 m c (ix1 j)).toInt < 8

/-- The precondition makes the arguments of every device admissible. -/
theorem admissible (h : Cert.Pre_KernelIdeal_weighted_graph m) : Admissible m c :=
  ⟨weights_nonneg _ _ _ _ _ _ _ (h c).1, degrees_pos _ _ _ _ _ _ _ (h c).2.1,
    labels_range _ _ _ _ _ _ _ (h c).2.2.1 (h c).2.2.2⟩

/-- The scores that the last region starts from are the reference's. -/
theorem region_scores (h : Admissible m c) (q : Fin 12288) :
    scores (k2_pay5 (F := Ideal) (V5 m ρ c main_v17) (V5 m ρ c main_v19) (V5 m ρ c main_v18) (V5 m ρ c main_v16)) q
      = val_main_v121 (F := Ideal) (a0 m c) (a1 m c) (a2 m c) (a3 m c) (a4 m c) (a5 m c) (a6 m c) (ix1 q) := by
  obtain ⟨⟨a, b⟩, rfl⟩ := flat.surjective q
  rw [scores_flat]
  have hq : ∀ (a : Fin 8) (b : Fin 1536), ∃ (t : Fin 48) (r : Fin 256), 1536 * (a : ℕ) + b = 256 * t + r := fun a b =>
    ⟨⟨(1536 * (a : ℕ) + b) / 256, by omega⟩, ⟨(1536 * (a : ℕ) + b) % 256, by omega⟩, (Nat.div_add_mod _ 256).symm⟩
  refine finalize_entry (a0 m c) (a1 m c) (a2 m c) (a3 m c) (a4 m c) (a5 m c) (a6 m c) _ _ _ _
    (fun a b => ?_) (fun a b => ?_) (fun a b => ?_) (fun a b => ?_) a b
  all_goals obtain ⟨t, r, e⟩ := hq a b
  · exact (host2_v17 _ a b t r e).trans (scan_head m ρ c t r _ e (h.deg _))
  · exact (host2_v19 _ a b t r e).trans (scan_entropy m ρ c t r _ e)
  · exact (host2_v18 _ a b t r e).trans (scan_boundary m ρ c t r _ e (h.pos _) h.lab)
  · exact (host2_v16 _ a b t r e).trans (scan_smooth m ρ c t r _ e (h.deg _))

/-- The kernel's list of nodes is the reference's. -/
theorem list_result (h : Admissible m c) : W7 m ρ c (Proc.devRef .tc main_v21)
    = val_main_indices (F := Ideal) (a0 m c) (a1 m c) (a2 m c) (a3 m c) (a4 m c) (a5 m c) (a6 m c) := by
  funext j
  rw [eq_ix1 j]
  generalize (j 0 : Fin 512) = r
  refine (host3_v21 (W6 m ρ c) r).trans ?_
  have e : W6 m ρ c (Proc.devRef .tc main_v20) = (dat2 (V5 m ρ) c).arrAt 4 cfg2.N := W6_arr m ρ c 4
  rw [e, region2_final]
  have hs := region_scores m ρ c h
  refine (loop_list _ (fun q => by rw [hs q, ref_score]; exact score_above _) _ r).trans ?_
  simp only [hs]
  exact (top_at (by decide) (val_main_v121 (F := Ideal) (a0 m c) (a1 m c) (a2 m c) (a3 m c) (a4 m c) (a5 m c) (a6 m c))
    _ r).symm

/-- The reference's normalised features depend only on its arguments. -/
theorem features_congr {x1 y1 : FVec Ideal Cert.ReferenceIdeal.S12288x128 .f32}
    {x3 y3 x4 y4 : FVec Ideal Cert.ReferenceIdeal.S128 .f32} (e1 : x1 = y1) (e3 : x3 = y3) (e4 : x4 = y4) :
    val_main_v18 (F := Ideal) x1 x3 x4 = val_main_v18 (F := Ideal) y1 y3 y4 := by
  rw [e1, e3, e4]

/-- The reference's list of nodes depends only on its arguments. -/
theorem list_congr {x0 y0 : FVec Ideal Cert.ReferenceIdeal.S12288x12288 .f32}
    {x1 y1 : FVec Ideal Cert.ReferenceIdeal.S12288x128 .f32} {x2 y2 : IVec Cert.ReferenceIdeal.S12288 32}
    {x3 y3 x4 y4 x5 y5 : FVec Ideal Cert.ReferenceIdeal.S128 .f32} {x6 y6 : FVec Ideal Cert.ReferenceIdeal.S1 .f32}
    (e0 : x0 = y0) (e1 : x1 = y1) (e2 : x2 = y2) (e3 : x3 = y3) (e4 : x4 = y4) (e5 : x5 = y5) (e6 : x6 = y6) :
    val_main_indices (F := Ideal) x0 x1 x2 x3 x4 x5 x6 = val_main_indices (F := Ideal) y0 y1 y2 y3 y4 y5 y6 := by
  rw [e0, e1, e2, e3, e4, e5, e6]

/-- Under the precondition and from equal arguments, both programs end with equal results and unchanged arguments. -/
theorem results_equal : Cert.algebraic_KernelIdeal_ReferenceIdeal_pre_weighted_graph := by
  intro m g m' g' hpre hargs
  refine ⟨fun c => a0 m c, fun c => W7 m g c (Proc.devRef .tc main_v2), fun c => W7 m g c (Proc.devRef .tc main_v21),
    (θ_run _ _ _).mono (fun r h c => ?_) (run_results m g),
    (θ_run _ _ _).mono (fun r h c => ?_) (Cert.ReferenceIdeal.Value.run (F := Ideal) m' g')⟩
  · obtain ⟨h2, h21, h0, h'⟩ := h c
    exact ⟨h0, h2, h21, h0, h'⟩
  · obtain ⟨e0, e1, e2, e3, e4, e5, e6⟩ := hargs c
    obtain ⟨h0, h18, hidx, h'⟩ := h c
    refine ⟨h0.trans e0, h18.trans ?_, hidx.trans ?_, h'⟩
    · refine (val_main_v18_eq _).trans (Eq.trans ?_ (features_result m g c).symm)
      exact features_congr e1 e3 e4
    · refine (val_main_indices_eq _).trans (Eq.trans ?_ (list_result m g c (admissible m c hpre)).symm)
      exact list_congr e0 e1 e2 e3 e4 e5 e6

end Cert.Own

end
-- ==== Proof.lean ====
module

public import proofs.«01_k».proof.Defs
public import proofs.«01_k».proof.Proof.Gen.Kernel.Frame
public import proofs.«01_k».proof.Proof.Gen.KernelIdeal.Frame
public import proofs.«01_k».proof.Proof.Gen.Pre_weighted_graph
public import proofs.«01_k».proof.Proof.Gen.ReferenceIdeal.Run
public import proofs.«01_k».proof.Proof.Gen.ReferenceIdeal.Read
public import proofs.«01_k».proof.Proof.RefRun
public import proofs.«01_k».proof.Proof.Result
public import Idealize.ShloMosaic.Adequacy
public import Idealize.ShloMosaic.Init

@[expose] public section

noncomputable section

namespace Cert.Proof

open Idealize.ShloMosaic Idealize.SL.Sem

/-- The certificate's claim. -/
theorem claim : Cert.Claim :=
  ⟨Cert.Kernel.Gen.facts, Cert.KernelIdeal.Gen.facts, Cert.ReferenceIdeal.Gen.facts, Cert.Pre_weighted_graph.Gen.facts,
    fun m ρ _ => Cert.Kernel.Gen.frame m ρ, fun m ρ _ => Cert.KernelIdeal.Gen.frame m ρ,
    fun m ρ _ => Cert.KernelIdeal.Gen.frame m ρ,
    fun m ρ _ => Cert.Own.ref_frame m ρ, fun m ρ _ => Cert.Own.ref_frame m ρ, trivial,
    Cert.Own.results_equal⟩

end Cert.Proof

end
